-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S512x4096 : Shape := ⟨2, ![512, 4096]⟩
abbrev S16x512x512 : Shape := ⟨3, ![16, 512, 512]⟩
abbrev S2x512x4096 : Shape := ⟨3, ![2, 512, 4096]⟩
abbrev S16 : Shape := ⟨1, ![16]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x4096, .f32⟩
  | .local _ .vmem, ⟨0, _⟩ => ⟨S8192x512, .f32⟩
  | .local _ .vmem, ⟨1, _⟩ => ⟨S512x4096, .f32⟩
  | .local _ .vmem, ⟨2, _⟩ => ⟨S16x512x512, .bf16⟩
  | .local _ .vmem, ⟨3, _⟩ => ⟨S16x512x512, .bf16⟩
  | .local _ .vmem, ⟨4, _⟩ => ⟨S2x512x4096, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_12 : BitVec 32 := 0#32
  let v26 : BitVec 1 := Scalar.cmpi .eq arg0 c0_i32_12
  let v27 : BitVec 32 := Scalar.extui v26
  let c0_i32_13 : BitVec 32 := 0#32
  let v28 : BitVec 1 := Scalar.cmpi .ne v27 c0_i32_13
  v28

def k0_off1 (i : grid0.Coords) (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32_50 : BitVec 32 := 512#32
  let v96 : BitVec 32 := Scalar.muli v13 c512_i32_50
  let c0_i32_55 : BitVec 32 := 0#32
  ![v96.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v198 : Index := Scalar.indexCast v2
  let c0_106 : Index := 0#32
  let c0_107 : Index := 0#32
  ![v198.toNat, 0, 0]
def k0_dev1 : Nat :=
  let c0_i32_113 : BitVec 32 := 0#32
  let c0_i32_111 : BitVec 32 := 0#32
  let c1_i32_112 : BitVec 32 := 1#32
  let v206 : BitVec 32 := Scalar.muli c0_i32_111 c1_i32_112
  let v207 : BitVec 32 := Scalar.addi c0_i32_113 v206
  v207.toNat
def k0_dev2 : Nat :=
  let c0_i32_117 : BitVec 32 := 0#32
  let c1_i32_115 : BitVec 32 := 1#32
  let c1_i32_116 : BitVec 32 := 1#32
  let v208 : BitVec 32 := Scalar.muli c1_i32_115 c1_i32_116
  let v209 : BitVec 32 := Scalar.addi c0_i32_117 v208
  v209.toNat
def k0_dev3 : Nat :=
  let c0_i32_121 : BitVec 32 := 0#32
  let c2_i32_119 : BitVec 32 := 2#32
  let c1_i32_120 : BitVec 32 := 1#32
  let v210 : BitVec 32 := Scalar.muli c2_i32_119 c1_i32_120
  let v211 : BitVec 32 := Scalar.addi c0_i32_121 v210
  v211.toNat
def k0_dev4 : Nat :=
  let c0_i32_124 : BitVec 32 := 0#32
  let c3_i32 : BitVec 32 := 3#32
  let c1_i32_123 : BitVec 32 := 1#32
  let v212 : BitVec 32 := Scalar.muli c3_i32 c1_i32_123
  let v213 : BitVec 32 := Scalar.addi c0_i32_124 v212
  v213.toNat
def k0_dev5 : Nat :=
  let c0_i32_128 : BitVec 32 := 0#32
  let c4_i32_126 : BitVec 32 := 4#32
  let c1_i32_127 : BitVec 32 := 1#32
  let v214 : BitVec 32 := Scalar.muli c4_i32_126 c1_i32_127
  let v215 : BitVec 32 := Scalar.addi c0_i32_128 v214
  v215.toNat
def k0_dev6 : Nat :=
  let c0_i32_131 : BitVec 32 := 0#32
  let c5_i32 : BitVec 32 := 5#32
  let c1_i32_130 : BitVec 32 := 1#32
  let v216 : BitVec 32 := Scalar.muli c5_i32 c1_i32_130
  let v217 : BitVec 32 := Scalar.addi c0_i32_131 v216
  v217.toNat
def k0_dev7 : Nat :=
  let c0_i32_134 : BitVec 32 := 0#32
  let c6_i32 : BitVec 32 := 6#32
  let c1_i32_133 : BitVec 32 := 1#32
  let v218 : BitVec 32 := Scalar.muli c6_i32 c1_i32_133
  let v219 : BitVec 32 := Scalar.addi c0_i32_134 v218
  v219.toNat
def k0_dev8 : Nat :=
  let c0_i32_137 : BitVec 32 := 0#32
  let c7_i32 : BitVec 32 := 7#32
  let c1_i32_136 : BitVec 32 := 1#32
  let v220 : BitVec 32 := Scalar.muli c7_i32 c1_i32_136
  let v221 : BitVec 32 := Scalar.addi c0_i32_137 v220
  v221.toNat
def k0_dev9 : Nat :=
  let c0_i32_140 : BitVec 32 := 0#32
  let c8_i32 : BitVec 32 := 8#32
  let c1_i32_139 : BitVec 32 := 1#32
  let v222 : BitVec 32 := Scalar.muli c8_i32 c1_i32_139
  let v223 : BitVec 32 := Scalar.addi c0_i32_140 v222
  v223.toNat
def k0_dev10 : Nat :=
  let c0_i32_143 : BitVec 32 := 0#32
  let c9_i32 : BitVec 32 := 9#32
  let c1_i32_142 : BitVec 32 := 1#32
  let v224 : BitVec 32 := Scalar.muli c9_i32 c1_i32_142
  let v225 : BitVec 32 := Scalar.addi c0_i32_143 v224
  v225.toNat
def k0_dev11 : Nat :=
  let c0_i32_146 : BitVec 32 := 0#32
  let c10_i32 : BitVec 32 := 10#32
  let c1_i32_145 : BitVec 32 := 1#32
  let v226 : BitVec 32 := Scalar.muli c10_i32 c1_i32_145
  let v227 : BitVec 32 := Scalar.addi c0_i32_146 v226
  v227.toNat
def k0_dev12 : Nat :=
  let c0_i32_149 : BitVec 32 := 0#32
  let c11_i32 : BitVec 32 := 11#32
  let c1_i32_148 : BitVec 32 := 1#32
  let v228 : BitVec 32 := Scalar.muli c11_i32 c1_i32_148
  let v229 : BitVec 32 := Scalar.addi c0_i32_149 v228
  v229.toNat
def k0_dev13 : Nat :=
  let c0_i32_152 : BitVec 32 := 0#32
  let c12_i32 : BitVec 32 := 12#32
  let c1_i32_151 : BitVec 32 := 1#32
  let v230 : BitVec 32 := Scalar.muli c12_i32 c1_i32_151
  let v231 : BitVec 32 := Scalar.addi c0_i32_152 v230
  v231.toNat
def k0_dev14 : Nat :=
  let c0_i32_155 : BitVec 32 := 0#32
  let c13_i32 : BitVec 32 := 13#32
  let c1_i32_154 : BitVec 32 := 1#32
  let v232 : BitVec 32 := Scalar.muli c13_i32 c1_i32_154
  let v233 : BitVec 32 := Scalar.addi c0_i32_155 v232
  v233.toNat
def k0_dev15 : Nat :=
  let c0_i32_158 : BitVec 32 := 0#32
  let c14_i32 : BitVec 32 := 14#32
  let c1_i32_157 : BitVec 32 := 1#32
  let v234 : BitVec 32 := Scalar.muli c14_i32 c1_i32_157
  let v235 : BitVec 32 := Scalar.addi c0_i32_158 v234
  v235.toNat
def k0_dev16 : Nat :=
  let c0_i32_162 : BitVec 32 := 0#32
  let c15_i32_160 : BitVec 32 := 15#32
  let c1_i32_161 : BitVec 32 := 1#32
  let v236 : BitVec 32 := Scalar.muli c15_i32_160 c1_i32_161
  let v237 : BitVec 32 := Scalar.addi c0_i32_162 v236
  v237.toNat
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_174 : BitVec 32 := 0#32
  let c0_i32_175 : BitVec 32 := 0#32
  ![v2.toNat, 0, 0]
def k0_off5 (d0 : Dev nD) (c1_i32_164 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v238 : BitVec 32 := Scalar.addi v2 c1_i32_164
  let c16_i32_165 : BitVec 32 := 16#32
  let c0_i32_166 : BitVec 32 := 0#32
  let v239 : BitVec 1 := Scalar.cmpi .eq c16_i32_165 c0_i32_166
  let c1_i32_167 : BitVec 32 := 1#32
  let v240 : BitVec 32 := Scalar.select v239 c1_i32_167 c16_i32_165
  let v241 : BitVec 32 := Scalar.remsi v238 v240
  let c0_i32_169 : BitVec 32 := 0#32
  let v243 : BitVec 1 := Scalar.cmpi .slt v241 c0_i32_169
  let c0_i32_170 : BitVec 32 := 0#32
  let v244 : BitVec 1 := Scalar.cmpi .slt v240 c0_i32_170
  let v245 : BitVec 1 := Scalar.xori v243 v244
  let c0_i32_168 : BitVec 32 := 0#32
  let v242 : BitVec 1 := Scalar.cmpi .ne v241 c0_i32_168
  let v246 : BitVec 1 := Scalar.andi v245 v242
  let v247 : BitVec 32 := Scalar.addi v241 v240
  let v248 : BitVec 32 := Scalar.select v246 v247 v241
  let c0_i32_176 : BitVec 32 := 0#32
  let c0_i32_177 : BitVec 32 := 0#32
  ![v248.toNat, 0, 0]
def k0_dev17 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_164 : BitVec 32 := 1#32
  let v238 : BitVec 32 := Scalar.addi v2 c1_i32_164
  let c16_i32_165 : BitVec 32 := 16#32
  let c0_i32_166 : BitVec 32 := 0#32
  let v239 : BitVec 1 := Scalar.cmpi .eq c16_i32_165 c0_i32_166
  let c1_i32_167 : BitVec 32 := 1#32
  let v240 : BitVec 32 := Scalar.select v239 c1_i32_167 c16_i32_165
  let v241 : BitVec 32 := Scalar.remsi v238 v240
  let c0_i32_169 : BitVec 32 := 0#32
  let v243 : BitVec 1 := Scalar.cmpi .slt v241 c0_i32_169
  let c0_i32_170 : BitVec 32 := 0#32
  let v244 : BitVec 1 := Scalar.cmpi .slt v240 c0_i32_170
  let v245 : BitVec 1 := Scalar.xori v243 v244
  let c0_i32_168 : BitVec 32 := 0#32
  let v242 : BitVec 1 := Scalar.cmpi .ne v241 c0_i32_168
  let v246 : BitVec 1 := Scalar.andi v245 v242
  let v247 : BitVec 32 := Scalar.addi v241 v240
  let v248 : BitVec 32 := Scalar.select v246 v247 v241
  let c1_i32_172 : BitVec 32 := 1#32
  let v249 : BitVec 32 := Scalar.muli v248 c1_i32_172
  let v250 : BitVec 32 := Scalar.addi c0_i32_173 v249
  v250.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_178 : BitVec 32 := 2#32
  let v259 : BitVec 32 := Scalar.addi v2 c2_i32_178
  let c16_i32_179 : BitVec 32 := 16#32
  let c0_i32_180 : BitVec 32 := 0#32
  let v260 : BitVec 1 := Scalar.cmpi .eq c16_i32_179 c0_i32_180
  let c1_i32_181 : BitVec 32 := 1#32
  let v261 : BitVec 32 := Scalar.select v260 c1_i32_181 c16_i32_179
  let v262 : BitVec 32 := Scalar.remsi v259 v261
  let c0_i32_183 : BitVec 32 := 0#32
  let v264 : BitVec 1 := Scalar.cmpi .slt v262 c0_i32_183
  let c0_i32_184 : BitVec 32 := 0#32
  let v265 : BitVec 1 := Scalar.cmpi .slt v261 c0_i32_184
  let v266 : BitVec 1 := Scalar.xori v264 v265
  let c0_i32_182 : BitVec 32 := 0#32
  let v263 : BitVec 1 := Scalar.cmpi .ne v262 c0_i32_182
  let v267 : BitVec 1 := Scalar.andi v266 v263
  let v268 : BitVec 32 := Scalar.addi v262 v261
  let v269 : BitVec 32 := Scalar.select v267 v268 v262
  let c1_i32_186 : BitVec 32 := 1#32
  let v270 : BitVec 32 := Scalar.muli v269 c1_i32_186
  let v271 : BitVec 32 := Scalar.addi c0_i32_187 v270
  v271.toNat
def k0_dev19 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_192 : BitVec 32 := 3#32
  let v280 : BitVec 32 := Scalar.addi v2 c3_i32_192
  let c16_i32_193 : BitVec 32 := 16#32
  let c0_i32_194 : BitVec 32 := 0#32
  let v281 : BitVec 1 := Scalar.cmpi .eq c16_i32_193 c0_i32_194
  let c1_i32_195 : BitVec 32 := 1#32
  let v282 : BitVec 32 := Scalar.select v281 c1_i32_195 c16_i32_193
  let v283 : BitVec 32 := Scalar.remsi v280 v282
  let c0_i32_197 : BitVec 32 := 0#32
  let v285 : BitVec 1 := Scalar.cmpi .slt v283 c0_i32_197
  let c0_i32_198 : BitVec 32 := 0#32
  let v286 : BitVec 1 := Scalar.cmpi .slt v282 c0_i32_198
  let v287 : BitVec 1 := Scalar.xori v285 v286
  let c0_i32_196 : BitVec 32 := 0#32
  let v284 : BitVec 1 := Scalar.cmpi .ne v283 c0_i32_196
  let v288 : BitVec 1 := Scalar.andi v287 v284
  let v289 : BitVec 32 := Scalar.addi v283 v282
  let v290 : BitVec 32 := Scalar.select v288 v289 v283
  let c1_i32_200 : BitVec 32 := 1#32
  let v291 : BitVec 32 := Scalar.muli v290 c1_i32_200
  let v292 : BitVec 32 := Scalar.addi c0_i32_201 v291
  v292.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_206 : BitVec 32 := 4#32
  let v301 : BitVec 32 := Scalar.addi v2 c4_i32_206
  let c16_i32_207 : BitVec 32 := 16#32
  let c0_i32_208 : BitVec 32 := 0#32
  let v302 : BitVec 1 := Scalar.cmpi .eq c16_i32_207 c0_i32_208
  let c1_i32_209 : BitVec 32 := 1#32
  let v303 : BitVec 32 := Scalar.select v302 c1_i32_209 c16_i32_207
  let v304 : BitVec 32 := Scalar.remsi v301 v303
  let c0_i32_211 : BitVec 32 := 0#32
  let v306 : BitVec 1 := Scalar.cmpi .slt v304 c0_i32_211
  let c0_i32_212 : BitVec 32 := 0#32
  let v307 : BitVec 1 := Scalar.cmpi .slt v303 c0_i32_212
  let v308 : BitVec 1 := Scalar.xori v306 v307
  let c0_i32_210 : BitVec 32 := 0#32
  let v305 : BitVec 1 := Scalar.cmpi .ne v304 c0_i32_210
  let v309 : BitVec 1 := Scalar.andi v308 v305
  let v310 : BitVec 32 := Scalar.addi v304 v303
  let v311 : BitVec 32 := Scalar.select v309 v310 v304
  let c1_i32_214 : BitVec 32 := 1#32
  let v312 : BitVec 32 := Scalar.muli v311 c1_i32_214
  let v313 : BitVec 32 := Scalar.addi c0_i32_215 v312
  v313.toNat
def k0_cond2 (i : grid0.Coords) : BitVec 1 :=
  let arg0 : BitVec 32 := BitVec.ofNat 32 (i 0).val
  let c0_i32_14 : BitVec 32 := 0#32
  let v29 : BitVec 1 := Scalar.cmpi .sgt arg0 c0_i32_14
  let c4_i32 : BitVec 32 := 4#32
  let v30 : BitVec 32 := Scalar.addi arg0 c4_i32
  let c16_i32_15 : BitVec 32 := 16#32
  let v31 : BitVec 1 := Scalar.cmpi .slt v30 c16_i32_15
  let v32 : BitVec 1 := Scalar.andi v29 v31
  let v33 : BitVec 32 := Scalar.extui v32
  let c0_i32_16 : BitVec 32 := 0#32
  let v34 : BitVec 1 := Scalar.cmpi .ne v33 c0_i32_16
  v34

def k0_off6 (i : grid0.Coords) : Fin 1 → Nat :=
  let arg0 : BitVec 32 := BitVec.ofNat 32 (i 0).val
  let c4_i32_50 : BitVec 32 := 4#32
  let v96 : BitVec 32 := Scalar.addi arg0 c4_i32_50
  ![v96.toNat]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_59 : BitVec 32 := 0#32
  let c0_i32_60 : BitVec 32 := 0#32
  ![v2.toNat, 0, 0]
def k0_off9 (i : grid0.Coords) (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let c4_i32_50 : BitVec 32 := 4#32
  let v96 : BitVec 32 := Scalar.addi arg0 c4_i32_50
  let v97 : BitVec 32 := Scalar.addi v2 v96
  let c16_i32_51 : BitVec 32 := 16#32
  let c0_i32_52 : BitVec 32 := 0#32
  let v98 : BitVec 1 := Scalar.cmpi .eq c16_i32_51 c0_i32_52
  let c1_i32_53 : BitVec 32 := 1#32
  let v99 : BitVec 32 := Scalar.select v98 c1_i32_53 c16_i32_51
  let v100 : BitVec 32 := Scalar.remsi v97 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  let c0_i32_61 : BitVec 32 := 0#32
  let c0_i32_62 : BitVec 32 := 0#32
  ![v107.toNat, 0, 0]
def k0_dev21 (i : grid0.Coords) (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let c4_i32_50 : BitVec 32 := 4#32
  let v96 : BitVec 32 := Scalar.addi arg0 c4_i32_50
  let v97 : BitVec 32 := Scalar.addi v2 v96
  let c16_i32_51 : BitVec 32 := 16#32
  let c0_i32_52 : BitVec 32 := 0#32
  let v98 : BitVec 1 := Scalar.cmpi .eq c16_i32_51 c0_i32_52
  let c1_i32_53 : BitVec 32 := 1#32
  let v99 : BitVec 32 := Scalar.select v98 c1_i32_53 c16_i32_51
  let v100 : BitVec 32 := Scalar.remsi v97 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  let c1_i32_57 : BitVec 32 := 1#32
  let v108 : BitVec 32 := Scalar.muli v107 c1_i32_57
  let v109 : BitVec 32 := Scalar.addi c0_i32_58 v108
  v109.toNat
def k0_cond3 (i : grid0.Coords) : BitVec 1 :=
  let arg0 : BitVec 32 := BitVec.ofNat 32 (i 0).val
  let c15_i32 : BitVec 32 := 15#32
  let v35 : BitVec 1 := Scalar.cmpi .slt arg0 c15_i32
  let v36 : BitVec 32 := Scalar.extui v35
  let c0_i32_17 : BitVec 32 := 0#32
  let v37 : BitVec 1 := Scalar.cmpi .ne v36 c0_i32_17
  v37

def k0_off10 (i : grid0.Coords) : Fin 1 → Nat :=
  let arg0 : BitVec 32 := BitVec.ofNat 32 (i 0).val
  let c1_i32_58 : BitVec 32 := 1#32
  let v108 : BitVec 32 := Scalar.addi arg0 c1_i32_58
  let c2_i32_59 : BitVec 32 := 2#32
  let c0_i32_60 : BitVec 32 := 0#32
  let v109 : BitVec 1 := Scalar.cmpi .eq c2_i32_59 c0_i32_60
  let c1_i32_61 : BitVec 32 := 1#32
  let v110 : BitVec 32 := Scalar.select v109 c1_i32_61 c2_i32_59
  let v111 : BitVec 32 := Scalar.remsi v108 v110
  let c0_i32_63 : BitVec 32 := 0#32
  let v113 : BitVec 1 := Scalar.cmpi .slt v111 c0_i32_63
  let c0_i32_64 : BitVec 32 := 0#32
  let v114 : BitVec 1 := Scalar.cmpi .slt v110 c0_i32_64
  let v115 : BitVec 1 := Scalar.xori v113 v114
  let c0_i32_62 : BitVec 32 := 0#32
  let v112 : BitVec 1 := Scalar.cmpi .ne v111 c0_i32_62
  let v116 : BitVec 1 := Scalar.andi v115 v112
  let v117 : BitVec 32 := Scalar.addi v111 v110
  let v118 : BitVec 32 := Scalar.select v116 v117 v111
  ![v118.toNat]
def k0_off11 (i : grid0.Coords) : Fin 3 → Nat :=
  let arg0 : BitVec 32 := BitVec.ofNat 32 (i 0).val
  let c1_i32_51 : BitVec 32 := 1#32
  let v97 : BitVec 32 := Scalar.addi arg0 c1_i32_51
  let c2_i32_52 : BitVec 32 := 2#32
  let c0_i32_53 : BitVec 32 := 0#32
  let v98 : BitVec 1 := Scalar.cmpi .eq c2_i32_52 c0_i32_53
  let c1_i32_54 : BitVec 32 := 1#32
  let v99 : BitVec 32 := Scalar.select v98 c1_i32_54 c2_i32_52
  let v100 : BitVec 32 := Scalar.remsi v97 v99
  let c0_i32_56 : BitVec 32 := 0#32
  let v102 : BitVec 1 := Scalar.cmpi .slt v100 c0_i32_56
  let c0_i32_57 : BitVec 32 := 0#32
  let v103 : BitVec 1 := Scalar.cmpi .slt v99 c0_i32_57
  let v104 : BitVec 1 := Scalar.xori v102 v103
  let c0_i32_55 : BitVec 32 := 0#32
  let v101 : BitVec 1 := Scalar.cmpi .ne v100 c0_i32_55
  let v105 : BitVec 1 := Scalar.andi v104 v101
  let v106 : BitVec 32 := Scalar.addi v100 v99
  let v107 : BitVec 32 := Scalar.select v105 v106 v100
  let c0_i32_65 : BitVec 32 := 0#32
  let c0_i32_66 : BitVec 32 := 0#32
  ![v107.toNat, 0, 0]
def k0_off12 (i : grid0.Coords) (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v14 : BitVec 32 := Scalar.subi v2 arg0
  let c1_i32_5 : BitVec 32 := 1#32
  let v15 : BitVec 32 := Scalar.subi v14 c1_i32_5
  let c16_i32_6 : BitVec 32 := 16#32
  let c0_i32_7 : BitVec 32 := 0#32
  let v16 : BitVec 1 := Scalar.cmpi .eq c16_i32_6 c0_i32_7
  let c1_i32_8 : BitVec 32 := 1#32
  let v17 : BitVec 32 := Scalar.select v16 c1_i32_8 c16_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c512_i32_50 : BitVec 32 := 512#32
  let v96 : BitVec 32 := Scalar.muli v25 c512_i32_50
  let c0_i32_67 : BitVec 32 := 0#32
  ![v96.toNat, 0]
def k0_cond4 (i : grid0.Coords) : BitVec 1 :=
  let arg0 : BitVec 32 := BitVec.ofNat 32 (i 0).val
  let c0_i32_18 : BitVec 32 := 0#32
  let v38 : BitVec 1 := Scalar.cmpi .ne arg0 c0_i32_18
  let v39 : BitVec 32 := Scalar.extui v38
  let c0_i32_19 : BitVec 32 := 0#32
  let v40 : BitVec 1 := Scalar.cmpi .ne v39 c0_i32_19
  v40

def k0_off13 (i : grid0.Coords) (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  ![v13.toNat]
def k0_off14 (i : grid0.Coords) (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_54 : BitVec 32 := 0#32
  let c0_i32_55 : BitVec 32 := 0#32
  ![v13.toNat, 0, 0]
def k0_off15 (i : grid0.Coords) : Fin 1 → Nat :=
  let arg0 : BitVec 32 := BitVec.ofNat 32 (i 0).val
  let c2_i32_25 : BitVec 32 := 2#32
  let c0_i32_26 : BitVec 32 := 0#32
  let v52 : BitVec 1 := Scalar.cmpi .eq c2_i32_25 c0_i32_26
  let c1_i32_27 : BitVec 32 := 1#32
  let v53 : BitVec 32 := Scalar.select v52 c1_i32_27 c2_i32_25
  let v54 : BitVec 32 := Scalar.remsi arg0 v53
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let c0_i32_28 : BitVec 32 := 0#32
  let v55 : BitVec 1 := Scalar.cmpi .ne v54 c0_i32_28
  let v59 : BitVec 1 := Scalar.andi v58 v55
  let v60 : BitVec 32 := Scalar.addi v54 v53
  let v61 : BitVec 32 := Scalar.select v59 v60 v54
  ![v61.toNat]
def k0_off16 (i : grid0.Coords) : Fin 3 → Nat :=
  let arg0 : BitVec 32 := BitVec.ofNat 32 (i 0).val
  let c2_i32 : BitVec 32 := 2#32
  let c0_i32_20 : BitVec 32 := 0#32
  let v42 : BitVec 1 := Scalar.cmpi .eq c2_i32 c0_i32_20
  let c1_i32_21 : BitVec 32 := 1#32
  let v43 : BitVec 32 := Scalar.select v42 c1_i32_21 c2_i32
  let v44 : BitVec 32 := Scalar.remsi arg0 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c0_i32_31 : BitVec 32 := 0#32
  let c0_i32_32 : BitVec 32 := 0#32
  ![v51.toNat, 0, 0]
def k0_off17 (i : grid0.Coords) (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v41 : BitVec 32 := Scalar.muli v13 c512_i32
  let c0_i32_33 : BitVec 32 := 0#32
  ![v41.toNat, 0]
def k0_off18 (i : grid0.Coords) (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v67 : Index := Scalar.indexCast v13
  let c0 : Index := 0#32
  let c0_34 : Index := 0#32
  ![v67.toNat, 0, 0]
def k0_off19 (i : grid0.Coords) : Fin 3 → Nat :=
  let arg0 : BitVec 32 := BitVec.ofNat 32 (i 0).val
  let c2_i32_35 : BitVec 32 := 2#32
  let c0_i32_36 : BitVec 32 := 0#32
  let v70 : BitVec 1 := Scalar.cmpi .eq c2_i32_35 c0_i32_36
  let c1_i32_37 : BitVec 32 := 1#32
  let v71 : BitVec 32 := Scalar.select v70 c1_i32_37 c2_i32_35
  let v72 : BitVec 32 := Scalar.remsi arg0 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let v80 : Index := Scalar.indexCast v79
  let c0_41 : Index := 0#32
  let c0_42 : Index := 0#32
  ![v80.toNat, 0, 0]
def k0_cond7 (i : grid0.Coords) : BitVec 1 :=
  let arg0 : BitVec 32 := BitVec.ofNat 32 (i 0).val
  let c15_i32_48 : BitVec 32 := 15#32
  let v93 : BitVec 1 := Scalar.cmpi .eq arg0 c15_i32_48
  let v94 : BitVec 32 := Scalar.extui v93
  let c0_i32_49 : BitVec 32 := 0#32
  let v95 : BitVec 1 := Scalar.cmpi .ne v94 c0_i32_49
  v95

def k0_off20 (d0 : Dev nD) (c1_i32_58 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c1_i32_58
  let c16_i32_59 : BitVec 32 := 16#32
  let c0_i32_60 : BitVec 32 := 0#32
  let v114 : BitVec 1 := Scalar.cmpi .eq c16_i32_59 c0_i32_60
  let c1_i32_61 : BitVec 32 := 1#32
  let v115 : BitVec 32 := Scalar.select v114 c1_i32_61 c16_i32_59
  let v116 : BitVec 32 := Scalar.remsi v113 v115
  let c0_i32_63 : BitVec 32 := 0#32
  let v118 : BitVec 1 := Scalar.cmpi .slt v116 c0_i32_63
  let c0_i32_64 : BitVec 32 := 0#32
  let v119 : BitVec 1 := Scalar.cmpi .slt v115 c0_i32_64
  let v120 : BitVec 1 := Scalar.xori v118 v119
  let c0_i32_62 : BitVec 32 := 0#32
  let v117 : BitVec 1 := Scalar.cmpi .ne v116 c0_i32_62
  let v121 : BitVec 1 := Scalar.andi v120 v117
  let v122 : BitVec 32 := Scalar.addi v116 v115
  let v123 : BitVec 32 := Scalar.select v121 v122 v116
  let c0_i32_67 : BitVec 32 := 0#32
  let c0_i32_68 : BitVec 32 := 0#32
  ![v123.toNat, 0, 0]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  let c0_i32_70 : BitVec 32 := 0#32
  ![v2.toNat, 0, 0]
def k0_cond5 (i : grid0.Coords) : BitVec 1 :=
  let arg0 : BitVec 32 := BitVec.ofNat 32 (i 0).val
  let c0_i32_43 : BitVec 32 := 0#32
  let v85 : BitVec 1 := Scalar.cmpi .eq arg0 c0_i32_43
  let v86 : BitVec 32 := Scalar.extui v85
  let c0_i32_44 : BitVec 32 := 0#32
  let v87 : BitVec 1 := Scalar.cmpi .ne v86 c0_i32_44
  v87

def k0_cond6 (i : grid0.Coords) : BitVec 1 :=
  let arg0 : BitVec 32 := BitVec.ofNat 32 (i 0).val
  let c0_i32_45 : BitVec 32 := 0#32
  let v88 : BitVec 1 := Scalar.cmpi .sgt arg0 c0_i32_45
  let c15_i32_46 : BitVec 32 := 15#32
  let v89 : BitVec 1 := Scalar.cmpi .slt arg0 c15_i32_46
  let v90 : BitVec 1 := Scalar.andi v88 v89
  let v91 : BitVec 32 := Scalar.extui v90
  let c0_i32_47 : BitVec 32 := 0#32
  let v92 : BitVec 1 := Scalar.cmpi .ne v91 c0_i32_47
  v92

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
  The mesh and the grid in closed form: which device a transfer goes to, which block a step multiplies, and the value of
  every printed condition, offset and device number at grid point `t` of device `c`.

  Device `c` multiplies at step `t` the block it holds from device `from c t` (`t` places behind it on the ring of 16),
  and its `k`-th transfer goes to device `to c k` (`k` places ahead).
-/
module

public import proofs.«01_k».proof.Proof.Gen.KernelIdeal

@[expose] public section

noncomputable section

namespace Cert.KernelIdeal.Proof

open Idealize.ShloMosaic Idealize.ShloMosaic.TcCoe
open Cert.KernelIdeal Cert.KernelIdeal.Gen

/-- The device `k` places ahead of `c`. -/
def ahead (c : Dev nD) (k : ℕ) : Dev nD := ⟨(c.val + k) % 16, Nat.mod_lt _ (by decide)⟩
/-- The device `t` places behind `c`. -/
def behind (c : Dev nD) (t : ℕ) : Dev nD := ⟨(c.val + 15 * t) % 16, Nat.mod_lt _ (by decide)⟩

theorem ahead_zero (c : Dev nD) : ahead c 0 = c := by revert c; decide +kernel
theorem behind_zero (c : Dev nD) : behind c 0 = c := by revert c; decide +kernel
theorem behind_ahead (c : Dev nD) (k : Fin 16) : behind (ahead c k.val) k.val = c := by revert c k; decide +kernel
theorem ahead_behind (c : Dev nD) (k : Fin 16) : ahead (behind c k.val) k.val = c := by revert c k; decide +kernel
theorem ahead_ne (c : Dev nD) (k : Fin 16) (h : k.val ≠ 0) : ahead c k.val ≠ c := by revert c k; decide +kernel
theorem behind_ne (c : Dev nD) (k : Fin 16) (h : k.val ≠ 0) : behind c k.val ≠ c := by revert c k; decide +kernel

/-- How far `d` is ahead of `c`. -/
def dist (c d : Dev nD) : Fin 16 := ⟨(d.val + 15 * c.val) % 16, Nat.mod_lt _ (by decide)⟩

theorem dist_ahead (c : Dev nD) (k : Fin 16) : dist c (ahead c k.val) = k := by revert c k; decide +kernel
theorem ahead_dist (c d : Dev nD) : ahead c (dist c d).val = d := by revert c d; decide +kernel
theorem dist_behind (c : Dev nD) (k : Fin 16) : dist (behind c k.val) c = k := by revert c k; decide +kernel
theorem behind_dist (c d : Dev nD) : behind d (dist c d).val = c := by revert c d; decide +kernel
theorem dist_eq_zero (c d : Dev nD) : (dist c d).val = 0 ↔ c = d := by revert c d; decide +kernel

/-- The devices by their distance ahead of `c`. -/
def aheadEquiv (c : Dev nD) : Fin 16 ≃ Dev nD := ⟨fun k => ahead c k.val, dist c, dist_ahead c, ahead_dist c⟩
/-- The devices by their distance behind `c`. -/
def behindEquiv (c : Dev nD) : Fin 16 ≃ Dev nD := ⟨fun k => behind c k.val, fun d => dist d c, dist_behind c, fun d => behind_dist d c⟩

/-! ## The printed conditions at a grid point -/

theorem cond1_iff : ∀ i : grid0.Coords, k0_cond1 i = 1#1 ↔ (i 0).val = 0 := by decide +kernel
theorem cond2_iff : ∀ i : grid0.Coords, k0_cond2 i = 1#1 ↔ (0 < (i 0).val ∧ (i 0).val < 12) := by decide +kernel
theorem cond3_iff : ∀ i : grid0.Coords, k0_cond3 i = 1#1 ↔ (i 0).val < 15 := by decide +kernel
theorem cond4_iff : ∀ i : grid0.Coords, k0_cond4 i = 1#1 ↔ (i 0).val ≠ 0 := by decide +kernel
theorem cond5_iff : ∀ i : grid0.Coords, k0_cond5 i = 1#1 ↔ (i 0).val = 0 := by decide +kernel
theorem cond6_iff : ∀ i : grid0.Coords, k0_cond6 i = 1#1 ↔ (0 < (i 0).val ∧ (i 0).val < 15) := by decide +kernel
theorem cond7_iff : ∀ i : grid0.Coords, k0_cond7 i = 1#1 ↔ (i 0).val = 15 := by decide +kernel

/-! ## The printed offsets and device numbers -/

theorem off1_eq : ∀ (i : grid0.Coords) (c : Dev nD), (i 0).val = 0 → k0_off1 i c = ![512 * c.val, 0] := by decide +kernel
theorem off5_eq : ∀ (c : Dev nD) (r : Fin 4), k0_off5 c (BitVec.ofNat 32 (1 + r.val)) = ![(ahead c (1 + r.val)).val, 0, 0] := by decide +kernel
theorem dev17_eq : ∀ c : Dev nD, k0_dev17 c = (ahead c 1).val := by decide +kernel
theorem dev18_eq : ∀ c : Dev nD, k0_dev18 c = (ahead c 2).val := by decide +kernel
theorem dev19_eq : ∀ c : Dev nD, k0_dev19 c = (ahead c 3).val := by decide +kernel
theorem dev20_eq : ∀ c : Dev nD, k0_dev20 c = (ahead c 4).val := by decide +kernel
theorem off9_eq : ∀ (i : grid0.Coords) (c : Dev nD), 0 < (i 0).val ∧ (i 0).val < 12 → k0_off9 i c = ![(ahead c ((i 0).val + 4)).val, 0, 0] := by decide +kernel
theorem dev21_eq : ∀ (i : grid0.Coords) (c : Dev nD), 0 < (i 0).val ∧ (i 0).val < 12 → k0_dev21 i c = (ahead c ((i 0).val + 4)).val := by decide +kernel
theorem off10_eq : ∀ i : grid0.Coords, k0_off10 i = ![((i 0).val + 1) % 2] := by decide +kernel
theorem off11_eq : ∀ i : grid0.Coords, k0_off11 i = ![((i 0).val + 1) % 2, 0, 0] := by decide +kernel
theorem off12_eq : ∀ (i : grid0.Coords) (c : Dev nD), k0_off12 i c = ![512 * (behind c ((i 0).val + 1)).val, 0] := by decide +kernel
theorem off13_eq : ∀ (i : grid0.Coords) (c : Dev nD), k0_off13 i c = ![(behind c (i 0).val).val] := by decide +kernel
theorem off14_eq : ∀ (i : grid0.Coords) (c : Dev nD), k0_off14 i c = ![(behind c (i 0).val).val, 0, 0] := by decide +kernel
theorem off15_eq : ∀ i : grid0.Coords, k0_off15 i = ![(i 0).val % 2] := by decide +kernel
theorem off16_eq : ∀ i : grid0.Coords, k0_off16 i = ![(i 0).val % 2, 0, 0] := by decide +kernel
theorem off17_eq : ∀ (i : grid0.Coords) (c : Dev nD), k0_off17 i c = ![512 * (behind c (i 0).val).val, 0] := by decide +kernel
theorem off18_eq : ∀ (i : grid0.Coords) (c : Dev nD), k0_off18 i c = ![(behind c (i 0).val).val, 0, 0] := by decide +kernel
theorem off19_eq : ∀ i : grid0.Coords, k0_off19 i = ![(i 0).val % 2, 0, 0] := by decide +kernel
theorem off20_eq : ∀ (c : Dev nD) (r : Fin 15), k0_off20 c (BitVec.ofNat 32 (1 + r.val)) = ![(ahead c (1 + r.val)).val, 0, 0] := by decide +kernel

/-- A grid point's coordinate is its number. -/
theorem coords_val : ∀ t : Fin grid0.N, ((grid0.coords t) 0).val = t.val := by decide +kernel

end Cert.KernelIdeal.Proof
-- ==== Proof.Slots.lean ====
/-
  The pieces of the kernel's buffers, what each holds when it is full, and the value the kernel computes.

  The send buffer and the gather buffer are 16 slots of 512 × 512, the weight buffer is 2 slots of 512 × 4096; the
  weight array is read 512 rows at a time and the staged columns of `x` likewise. Slot `j` of device `c`'s send buffer
  holds rows `512 j …` of its columns of `x`, narrowed to 16 bits; slot `s` of its gather buffer holds what device `s`
  has in slot `c` of its send buffer. Step `t` multiplies the block from `behind c t` by the matching rows of the
  weights and adds the product to the output's staging buffer.
-/
module

public import proofs.«01_k».proof.Proof.Mesh
public import proofs.«01_k».proof.Proof.Gen.KernelIdeal.Skeleton
public import proofs.«01_k».proof.Proof.Gen.KernelIdeal.Frame
public import Idealize.ShloMosaic.Lib.Pipeline.Kit
public import Idealize.ShloMosaic.Lib.Transfers
public import Idealize.ShloMosaic.Lib.Pointwise.Reshape
public import Idealize.ShloMosaic.Lib.Tactic

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's cells, the protocol's cells, the local transfers' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol cells' rounds: the left half of the right factor. -/
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance
abbrev EC : UEmb Counters (MT nD τ sig Unit (Elt F) ℕ UU ℕ) := countersEmb

/-! ## The buffers and their pieces -/

abbrev sbM : Memref sig .tc .vmem S16x512x512 .bf16 := Memref.whole cc0_scratch0
abbrev cmM : Memref sig .tc .vmem S16x512x512 .bf16 := Memref.whole cc0_scratch1
abbrev wbM : Memref sig .tc .vmem S2x512x4096 .f32 := Memref.whole cc0_scratch2
abbrev waM : Memref sig .tc .hbm S8192x4096 .f32 := Memref.whole main_arg1

theorem inbS (j : Fin 16) : ∀ a, (![j.val, 0, 0] : Fin 3 → ℕ) a + S1x512x512.size a ≤ S16x512x512.size a := by revert j; decide
theorem inbW (b : Fin 2) : ∀ a, (![b.val, 0, 0] : Fin 3 → ℕ) a + S1x512x4096.size a ≤ S2x512x4096.size a := by revert b; decide
theorem inbA (s : Fin 16) : ∀ a, (![512 * s.val, 0] : Fin 2 → ℕ) a + S512x4096.size a ≤ S8192x4096.size a := by revert s; decide
theorem inbX (j : Fin 16) : ∀ a, (![512 * j.val, 0] : Fin 2 → ℕ) a + S512x512.size a ≤ S8192x512.size a := by revert j; decide
theorem inb16 (s : Fin 16) : ∀ a, (![s.val] : Fin 1 → ℕ) a + S1.size a ≤ S16.size a := by revert s; decide
theorem inb2 (b : Fin 2) : ∀ a, (![b.val] : Fin 1 → ℕ) a + S1.size a ≤ S2.size a := by revert b; decide

abbrev rS (j : Fin 16) : Rect S16x512x512 := Rect.unit (s := S16x512x512) ![j.val, 0, 0] S1x512x512.size (inbS j)
abbrev rW (b : Fin 2) : Rect S2x512x4096 := Rect.unit (s := S2x512x4096) ![b.val, 0, 0] S1x512x4096.size (inbW b)
abbrev rA (s : Fin 16) : Rect S8192x4096 := Rect.unit (s := S8192x4096) ![512 * s.val, 0] S512x4096.size (inbA s)
abbrev rX (j : Fin 16) : Rect S8192x512 := Rect.unit (s := S8192x512) ![512 * j.val, 0] S512x512.size (inbX j)

/-- Slot `j` of the send buffer, of the gather buffer; slot `b` of the weight buffer; rows `512 s …` of the weights. -/
abbrev sbS (j : Fin 16) : Memref sig .tc .vmem S1x512x512 .bf16 := sbM.slice (rS j) (fun _ => rfl)
abbrev cmS (j : Fin 16) : Memref sig .tc .vmem S1x512x512 .bf16 := cmM.slice (rS j) (fun _ => rfl)
abbrev wbS (b : Fin 2) : Memref sig .tc .vmem S1x512x4096 .f32 := wbM.slice (rW b) (fun _ => rfl)
abbrev waS (s : Fin 16) : Memref sig .tc .hbm S512x4096 .f32 := waM.slice (rA s) (fun _ => rfl)

/-- The same with the unit axis dropped: what the transfers name. -/
abbrev sbQ (j : Fin 16) : Memref sig .tc .vmem S512x512 .bf16 := (sbS j).squeeze S512x512 squeezes_S1x512x512_S512x512
abbrev cmQ (j : Fin 16) : Memref sig .tc .vmem S512x512 .bf16 := (cmS j).squeeze S512x512 squeezes_S1x512x512_S512x512
abbrev wbQ (b : Fin 2) : Memref sig .tc .vmem S512x4096 .f32 := (wbS b).squeeze S512x4096 squeezes_S1x512x4096_S512x4096

/-- The semaphores: the barrier's, the one transfer `k` completes on at its sender, the one the transfer from device `s`
    completes on at its receiver, the one of the weights' slot `b`. -/
abbrev barS : Sem sig := (SemArray.scalar (sig.barrier 0 rfl) : Sems sig S_).sem
abbrev sendS (k : Fin 16) : DmaSem sig := ((cc0_scratch3.slice (Rect.unit (s := S16) ![k.val] S1.size (inb16 k))).squeeze S_ squeezes_S1_S_).sem
abbrev recvS (s : Fin 16) : DmaSem sig := ((cc0_scratch4.slice (Rect.unit (s := S16) ![s.val] S1.size (inb16 s))).squeeze S_ squeezes_S1_S_).sem
abbrev wS (b : Fin 2) : DmaSem sig := ((cc0_scratch5.slice (Rect.unit (s := S2) ![b.val] S1.size (inb2 b))).squeeze S_ squeezes_S1_S_).sem

/-- A piece held whole, reading `X`; and held whole at whatever it reads. -/
abbrev sbOwn (c : Dev nD) (j : Fin 16) (X : S1x512x512.Idx → Elt F .bf16) : sProp 𝕄 := owns (c : Thread nD τ) (sbS j) fullShare X
abbrev cmOwn (c : Dev nD) (j : Fin 16) (X : S1x512x512.Idx → Elt F .bf16) : sProp 𝕄 := owns (c : Thread nD τ) (cmS j) fullShare X
abbrev wbOwn (c : Dev nD) (b : Fin 2) (X : S1x512x4096.Idx → Elt F .f32) : sProp 𝕄 := owns (c : Thread nD τ) (wbS b) fullShare X

/-! ## The values -/

variable (m : (ℓ : Loc nD τ sig) → Buf (Elt F) ℓ) (ρ : Dev nD → PrngReg)

/-- Device `c`'s columns of `x`, as staged. -/
def xst (c : Dev nD) : Vec F S8192x512 .f32 := iblk m c 0 t0_0
/-- Rows `512 j …` of them. -/
def xRows (c : Dev nD) (j : Fin 16) : Vec F S512x512 .f32 := fun i => xst m c ((rX j).emb i)
/-- What slot `j` of device `c`'s send buffer holds. -/
def sbV (c : Dev nD) (j : Fin 16) : FVec F S1x512x512 .bf16 := k0_pay3 (xRows m c j)
/-- Rows `512 s …` of the weights, and as one slot of the weight buffer. -/
def waV (c : Dev nD) (s : Fin 16) : Vec F S512x4096 .f32 := (waS s).view.read (Elt F) (m ((c : Thread nD τ).loc main_arg1))
def wbV (c : Dev nD) (s : Fin 16) : Vec F S1x512x4096 .f32 := fun i => waV m c s (Shape.reshapeEquiv (squeezes_S1x512x4096_S512x4096).numel_eq.symm i)

/-- What step `t` of device `c` adds. -/
def ctr (c : Dev nD) (t : ℕ) : FVec F S512x4096 .f32 := k0_pay1 (k0_pay21 (sbV m (behind c t) c)) (wbV m c (behind c t))
/-- The running sum after step `t`, before the nonlinearity. -/
def acc (c : Dev nD) : ℕ → FVec F S512x4096 .f32
  | 0 => ctr m c 0
  | t + 1 => k0_pay2 (k0_pay21 (sbV m (behind c (t + 1)) c)) (wbV m c (behind c (t + 1))) (acc c t)
/-- What the output's staging buffer holds after step `t`. -/
def outV (c : Dev nD) (t : ℕ) : FVec F S512x4096 .f32 := if t = 15 then k0_pay20 (ctr m c 15) (acc m c 14) else acc m c t

/-! ## Reading a slot and its squeeze -/

theorem pay19_id (v : Vec F S1x512x512 .bf16) : k0_pay19 v = v := by
  unfold k0_pay19
  simp only [shapeCast_comp, shapeCast_id]

section Squeeze
variable {κ : Kind} {sp : Space} {s s' : Shape} {e : EltTy}

/-- A memref written through its squeeze reads the written values at the same row-major positions. -/
theorem read_write_squeeze (M : Memref sig κ sp s e) (h : s.Squeezes s') (f : M.view.ty.Contents (Elt F)) (w : s'.Idx → Elt F e) :
    M.view.read (Elt F) ((M.squeeze s' h).view.write (Elt F) f w Finset.univ) = fun i => w (Shape.reshapeEquiv h.numel_eq.symm i) := by
  funext i
  have h1 := congrFun (View.read_write_univ (v := (M.squeeze s' h).view) (Val := Elt F) f w) (Shape.reshapeEquiv h.numel_eq.symm i)
  rw [← h1]
  show M.view.read (Elt F) _ i = M.view.read (Elt F) _ (Shape.reshapeEquiv h.numel_eq (Shape.reshapeEquiv h.numel_eq.symm i))
  rw [Shape.reshapeEquiv_reshapeEquiv, Shape.reshapeEquiv_self]

/-- A memref written through its squeeze with what another, of its shape, reads through its own, reads that. -/
theorem read_write_squeeze_read {κ' : Kind} {sp' : Space} (M : Memref sig κ sp s e) (M' : Memref sig κ' sp' s e) (h : s.Squeezes s')
    (f : M.view.ty.Contents (Elt F)) (g : M'.view.ty.Contents (Elt F)) :
    M.view.read (Elt F) ((M.squeeze s' h).view.write (Elt F) f ((M'.squeeze s' h).view.read (Elt F) g) Finset.univ) = M'.view.read (Elt F) g := by
  rw [read_write_squeeze]
  funext i
  show M'.view.read (Elt F) g (Shape.reshapeEquiv h.numel_eq (Shape.reshapeEquiv h.numel_eq.symm i)) = _
  rw [Shape.reshapeEquiv_reshapeEquiv, Shape.reshapeEquiv_self]

end Squeeze

end Cert.KernelIdeal.Proof
-- ==== Proof.Protocol.lean ====
/-
  The cross-device protocol, written down as a schedule of duties.

  Every cell has one round. The barrier cell of device `c` is raised once by every device; device `d` hands it slot `c`
  of its own gather buffer, free to be written (its own raise hands over nothing). The receive cell `s` of device `c` is
  raised by device `s`'s transfer: it hands over slot `s` of `c`'s gather buffer, holding the block. The send cell `k` of
  device `c` is raised by `c`'s own `k`-th transfer: it hands back the slot of the send buffer the transfer read. The
  receive cell of a device for itself and the send cell 0 are never used.

  Levels: a device waiting for the block of step `t` (level `2 + t`) owes only blocks the receiver waits for later.
-/
module

public import proofs.«01_k».proof.Proof.Slots

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The kinds of a device's cells: the barrier, the receive cell for each device, the send cell for each transfer. -/
abbrev Kd : Type := Unit ⊕ (Fin 16 ⊕ Fin 16)
abbrev Kd.bar : Kd := .inl ()
abbrev Kd.recv (s : Fin 16) : Kd := .inr (.inl s)
abbrev Kd.send (k : Fin 16) : Kd := .inr (.inr k)

/-- The semaphore of each kind. -/
def kloc : Kd → SemLoc sig
  | .inl _ => .reg barS
  | .inr (.inl s) => .dma (recvS s)
  | .inr (.inr k) => .dma (sendS k)

theorem kloc_inj : Function.Injective kloc := by
  intro a b; revert a b; decide +kernel

abbrev kcell (ck : Dev nD × Kd) : GSem nD τ sig := ((ck.1 : Thread nD τ), kloc ck.2)
abbrev barCell (c : Dev nD) : GSem nD τ sig := ((c : Thread nD τ), .reg barS)
abbrev recvCell (c : Dev nD) (s : Fin 16) : GSem nD τ sig := ((c : Thread nD τ), .dma (recvS s))
abbrev sendCell (c : Dev nD) (k : Fin 16) : GSem nD τ sig := ((c : Thread nD τ), .dma (sendS k))

theorem kcell_inj : Function.Injective kcell := by
  rintro ⟨c, k⟩ ⟨c', k'⟩ h
  have h1 : ((c : Thread nD τ)) = (c' : Thread nD τ) := congrArg Prod.fst h
  have h2 : kloc k = kloc k' := congrArg Prod.snd h
  rw [kloc_inj h2, show c = c' from congrArg Prod.fst h1]

open Classical in
/-- The kind of a semaphore, if it is one of the protocol's. -/
def kind (sm : SemLoc sig) : Option Kd := if h : ∃ κ, kloc κ = sm then some h.choose else none

theorem kind_kloc (κ : Kd) : kind (kloc κ) = some κ := by
  have h : ∃ κ', kloc κ' = kloc κ := ⟨κ, rfl⟩
  unfold kind; rw [dif_pos h]; exact congrArg some (kloc_inj h.choose_spec)

/-! ## The schedule -/

/-- What a transfer of one block credits. -/
def N : ℕ := (cmQ 0).view.dmaCredit
theorem N_pos : 0 < N := View.dmaCredit_pos _ (by decide)

def dutiesK (c : Dev nD) : Kd → Finset (Fin 16)
  | .inl _ => Finset.univ
  | .inr (.inl s) => if s = c then ∅ else {0}
  | .inr (.inr k) => if k.val = 0 then ∅ else {0}

def amountK : Kd → ℕ
  | .inl _ => 1
  | .inr _ => N

def payloadK (c : Dev nD) : Kd → Fin 16 → sProp 𝕄
  | .inl _, d => if d = c then iprop(emp) else iprop(∃ X, cmOwn (F := F) d c X)
  | .inr (.inl s), _ => cmOwn c s (sbV m s c)
  | .inr (.inr k), _ => sbOwn c (ahead c k.val) (sbV m c (ahead c k.val))

instance payloadK_storable (c : Dev nD) (κ : Kd) (d : Fin 16) : BI.Storable (upEmb : UEmb _ 𝕄) (payloadK m c κ d) := by
  rcases κ with _ | s | k <;> unfold payloadK <;> (repeat' split) <;> infer_instance

/-- The duties of any cell's round: those of its kind in round 0, on a TensorCore. -/
def dutiesG (g : GSem nD τ sig) (r : ℕ) : Finset (Fin 16) :=
  if r = 0 ∧ g.1.2 = .tc then (match kind g.2 with | some κ => dutiesK g.1.1 κ | none => ∅) else ∅

def Rd : Rounds.Schedule (GSem nD τ sig) (Fin 16) 𝕄 where
  duties := dutiesG
  amount g _ _ := match kind g.2 with | some κ => amountK κ | none => 1
  payload g _ d := match kind g.2 with | some κ => payloadK m g.1.1 κ d | none => iprop(emp)
  amount_pos g r d _ := by
    split
    · rename_i κ _; rcases κ with _ | _
      · exact Nat.one_pos
      · exact N_pos
    · exact Nat.one_pos

instance Rd_payload_storable (g : GSem nD τ sig) (r : ℕ) (d : Fin 16) : BI.Storable (upEmb : UEmb _ 𝕄) ((Rd m).payload g r d) := by
  show BI.Storable upEmb (match kind g.2 with | some κ => payloadK m g.1.1 κ d | none => iprop(emp))
  split <;> infer_instance

theorem duties_k (c : Dev nD) (κ : Kd) : (Rd m).duties (kcell (c, κ)) 0 = dutiesK c κ := by
  show dutiesG (kcell (c, κ)) 0 = _
  have h : (0 : ℕ) = 0 ∧ (kcell (c, κ)).1.2 = .tc := ⟨rfl, rfl⟩
  unfold dutiesG
  rw [if_pos h]
  show (match kind (kloc κ) with | some κ => dutiesK c κ | none => ∅) = _
  rw [kind_kloc]
theorem duties_later (g : GSem nD τ sig) : ∀ r, 1 ≤ r → (Rd m).duties g r = ∅ := fun r hr => by
  show dutiesG g r = ∅
  unfold dutiesG
  exact if_neg fun h => by omega
theorem amount_k (c : Dev nD) (κ : Kd) (r : ℕ) (d : Fin 16) : (Rd m).amount (kcell (c, κ)) r d = amountK κ := by
  show (match kind (kloc κ) with | some κ => amountK κ | none => 1) = _
  rw [kind_kloc]
theorem payload_k (c : Dev nD) (κ : Kd) (r : ℕ) (d : Fin 16) : (Rd m).payload (kcell (c, κ)) r d = payloadK m c κ d := by
  show (match kind (kloc κ) with | some κ => payloadK m c κ d | none => iprop(emp)) = _
  rw [kind_kloc]
theorem expect_k (c : Dev nD) (κ : Kd) : (Rd m).expect (kcell (c, κ)) 0 = (dutiesK c κ).card * amountK κ := by
  unfold Schedule.expect Schedule.amountOf
  rw [duties_k, Finset.sum_congr rfl fun d _ => amount_k m c κ 0 d, Finset.sum_const, smul_eq_mul]

theorem duties_bar (c : Dev nD) : (Rd m).duties (barCell c) 0 = Finset.univ := duties_k m c .bar
theorem duties_recv (c : Dev nD) (s : Fin 16) (h : s ≠ c) : (Rd m).duties (recvCell c s) 0 = {0} := (duties_k m c (.recv s)).trans (if_neg h)
theorem duties_recv_self (c : Dev nD) : (Rd m).duties (recvCell c c) 0 = ∅ := (duties_k m c (.recv c)).trans (if_pos rfl)
theorem duties_send (c : Dev nD) (k : Fin 16) (h : k.val ≠ 0) : (Rd m).duties (sendCell c k) 0 = {0} := (duties_k m c (.send k)).trans (if_neg h)
theorem duties_send_zero (c : Dev nD) : (Rd m).duties (sendCell c 0) 0 = ∅ := (duties_k m c (.send 0)).trans (by unfold dutiesK; exact if_pos rfl)
theorem expect_bar (c : Dev nD) : (Rd m).expect (barCell c) 0 = 16 := expect_k m c .bar
theorem expect_recv (c : Dev nD) (s : Fin 16) (h : s ≠ c) : (Rd m).expect (recvCell c s) 0 = N :=
  (expect_k m c (.recv s)).trans (by show (if s = c then (∅ : Finset (Fin 16)) else {0}).card * N = N; rw [if_neg h]; simp)
theorem expect_send (c : Dev nD) (k : Fin 16) (h : k.val ≠ 0) : (Rd m).expect (sendCell c k) 0 = N :=
  (expect_k m c (.send k)).trans (by show (if k.val = 0 then (∅ : Finset (Fin 16)) else {0}).card * N = N; rw [if_neg h]; simp)
theorem amount_recv (c : Dev nD) (s : Fin 16) (d : Fin 16) : (Rd m).amount (recvCell c s) 0 d = N := amount_k m c (.recv s) 0 d
theorem amount_send (c : Dev nD) (k : Fin 16) (d : Fin 16) : (Rd m).amount (sendCell c k) 0 d = N := amount_k m c (.send k) 0 d
theorem amount_bar (c : Dev nD) (d : Fin 16) : (Rd m).amount (barCell c) 0 d = 1 := amount_k m c .bar 0 d
theorem payload_bar (c : Dev nD) (d : Fin 16) :
    (Rd m).payload (barCell c) 0 d = if d = c then iprop(emp) else iprop(∃ X, cmOwn (F := F) d c X) := payload_k m c .bar 0 d
theorem payload_recv (c : Dev nD) (s d : Fin 16) : (Rd m).payload (recvCell c s) 0 d = cmOwn c s (sbV m s c) := payload_k m c (.recv s) 0 d
theorem payload_send (c : Dev nD) (k d : Fin 16) :
    (Rd m).payload (sendCell c k) 0 d = sbOwn c (ahead c k.val) (sbV m c (ahead c k.val)) := payload_k m c (.send k) 0 d

theorem rest_bar (c : Dev nD) : bigSep ((Rd m).duties (barCell c) 0 \ ∅) (fun d => (Rd m).payload (barCell c) 0 d)
    = bigSep Finset.univ fun d : Fin 16 => if d = c then iprop(emp) else iprop(∃ X, cmOwn (F := F) d c X) := by
  rw [Finset.sdiff_empty, duties_bar]; exact bigSep_congr fun d _ => payload_bar m c d
theorem rest_recv (c : Dev nD) (s : Fin 16) (h : s ≠ c) :
    bigSep ((Rd m).duties (recvCell c s) 0 \ ∅) (fun d => (Rd m).payload (recvCell c s) 0 d) = cmOwn c s (sbV m s c) := by
  rw [Finset.sdiff_empty, duties_recv m c s h, bigSep_singleton, payload_recv]
theorem rest_send (c : Dev nD) (k : Fin 16) (h : k.val ≠ 0) :
    bigSep ((Rd m).duties (sendCell c k) 0 \ ∅) (fun d => (Rd m).payload (sendCell c k) 0 d) = sbOwn c (ahead c k.val) (sbV m c (ahead c k.val)) := by
  rw [Finset.sdiff_empty, duties_send m c k h, bigSep_singleton, payload_send]

/-! ## What each device owes, and the levels -/

/-- The units device `c`'s transfers after the `n`-th will bring the receivers. -/
def owedSend (c : Dev nD) (n : ℕ) : CellTallies nD τ sig Unit :=
  ∑ k ∈ Finset.univ.filter (fun k : Fin 16 => n < k.val), tallyAt (recvCell (ahead c k.val) c) () N
/-- The barrier raises of device `c` from device `n` on. -/
def owedBar (c : Dev nD) (n : ℕ) : CellTallies nD τ sig Unit :=
  ∑ d ∈ Finset.univ.filter (fun d : Fin 16 => n ≤ d.val), tallyAt (barCell d) () 1
/-- What device `c` owes at launch. -/
def O₀ (c : Dev nD) : CellTallies nD τ sig Unit := owedBar c 0 + owedSend c 0

theorem owedSend_step (c : Dev nD) (n : ℕ) (k : Fin 16) (hk : k.val = n + 1) :
    owedSend c n = owedSend c (n + 1) + tallyAt (recvCell (ahead c k.val) c) () N := by
  unfold owedSend
  rw [show Finset.univ.filter (fun k : Fin 16 => n < k.val) = insert k (Finset.univ.filter fun k : Fin 16 => n + 1 < k.val) from by
    ext j; simp only [Finset.mem_filter, Finset.mem_univ, true_and, Finset.mem_insert, Fin.ext_iff]; omega,
    Finset.sum_insert (by simp only [Finset.mem_filter, Finset.mem_univ, true_and]; omega), add_comm]
theorem owedSend_end (c : Dev nD) (n : ℕ) (hn : 15 ≤ n) : owedSend c n = 0 := by
  unfold owedSend
  rw [Finset.filter_false_of_mem fun k _ => by have := k.isLt; omega, Finset.sum_empty]
theorem owedBar_step (c : Dev nD) (d : Fin 16) : owedBar c d.val = owedBar c (d.val + 1) + tallyAt (barCell d) () 1 := by
  unfold owedBar
  rw [show Finset.univ.filter (fun k : Fin 16 => d.val ≤ k.val) = insert d (Finset.univ.filter fun k : Fin 16 => d.val + 1 ≤ k.val) from by
    ext j; simp only [Finset.mem_filter, Finset.mem_univ, true_and, Finset.mem_insert, Fin.ext_iff]; omega,
    Finset.sum_insert (by simp only [Finset.mem_filter, Finset.mem_univ, true_and]; omega), add_comm]
theorem owedBar_end (c : Dev nD) : owedBar c 16 = 0 := by
  unfold owedBar
  rw [Finset.filter_false_of_mem fun k _ => by have := k.isLt; omega, Finset.sum_empty]

/-- Every cell of a TensorCore has one level; staging, send and weight cells are lowest, then the barrier, then the
    receive cells in the order their owner waits for them. -/
def L (g : GSem nD τ sig) : Finset Unit := if g.1.2 = .tc then {()} else ∅
def lv (g : GSem nD τ sig) (_ : Unit) : ℕ :=
  match kind g.2 with
  | some (.inl _) => 1
  | some (.inr (.inl s)) => 2 + (dist s g.1.1).val
  | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) (u : Unit) : lv (barCell c) u = 1 := by
  show (match kind (kloc Kd.bar) with | some (.inl _) => 1 | some (.inr (.inl s)) => 2 + (dist s c).val | _ => 0) = 1
  rw [kind_kloc]
theorem lv_recv (c : Dev nD) (s : Fin 16) (u : Unit) : lv (recvCell c s) u = 2 + (dist s c).val := by
  show (match kind (kloc (Kd.recv s)) with | some (.inl _) => 1 | some (.inr (.inl s)) => 2 + (dist s c).val | _ => 0) = _
  rw [kind_kloc]
theorem lv_send (c : Dev nD) (k : Fin 16) (u : Unit) : lv (sendCell c k) u = 0 := by
  show (match kind (kloc (Kd.send k)) with | some (.inl _) => 1 | some (.inr (.inl s)) => 2 + (dist s c).val | _ => 0) = _
  rw [kind_kloc]
theorem kind_none (sm : SemLoc sig) (h : ∀ κ, kloc κ ≠ sm) : kind sm = none := dif_neg fun ⟨κ, e⟩ => h κ e
theorem lv_other (c : Dev nD) (sm : SemLoc sig) (h : ∀ κ, kloc κ ≠ sm) (u : Unit) : lv ((c : Thread nD τ), sm) u = 0 := by
  show (match kind sm with | some (.inl _) => 1 | some (.inr (.inl s)) => 2 + (dist s c).val | _ => 0) = _
  rw [kind_none sm h]
theorem lv_w (c : Dev nD) (b : Fin 2) (u : Unit) : lv ((c : Thread nD τ), .dma (wS b)) u = 0 :=
  lv_other c _ (by revert b; decide +kernel) u

/-- A cell at which transfers after the `n`-th are owed is a receive cell at a level above `2 + n`. -/
theorem owedSend_pos (c : Dev nD) (n : ℕ) (g : GSem nD τ sig) (u : Unit) (h : 0 < owedSend c n g u) :
    ∃ k : Fin 16, n < k.val ∧ g = recvCell (ahead c k.val) c := by
  by_contra hne
  push Not at hne
  have : owedSend c n g u = 0 := by
    unfold owedSend
    rw [Finset.sum_apply, Finsupp.finset_sum_apply]
    refine Finset.sum_eq_zero fun k hk => ?_
    rw [tallyAt_ne_cell (hne k (Finset.mem_filter.mp hk).2)]; rfl
  omega
theorem owedBar_pos (c : Dev nD) (n : ℕ) (g : GSem nD τ sig) (u : Unit) (h : 0 < owedBar c n g u) : ∃ d, g = barCell d := by
  by_contra hne
  push Not at hne
  have : owedBar c n g u = 0 := by
    unfold owedBar
    rw [Finset.sum_apply, Finsupp.finset_sum_apply]
    refine Finset.sum_eq_zero fun k hk => ?_
    rw [tallyAt_ne_cell (hne k)]; rfl
  omega

/-- A device owing the transfers after the `n`-th may wait at any cell of a level up to `2 + n`. -/
theorem mayWait_send (c : Dev nD) (n : ℕ) (sm : SemLoc sig) (h : lv ((c : Thread nD τ), sm) () ≤ 2 + n) :
    (levAts L lv : sProp 𝕄) ⊢ MayWait (c : Thread nD τ) sm () (owedSend c n) :=
  MayOwe.of_cut (L := L) (lev := lv) (2 + n)
    (fun p hp => by rw [Finset.mem_singleton.mp hp, L_tc]; exact Finset.mem_singleton_self _)
    (fun g u hg => by obtain ⟨k, hk, rfl⟩ := owedSend_pos c n g u hg; rw [L_tc]; exact Finset.mem_singleton_self _)
    (fun p hp => by rw [Finset.mem_singleton.mp hp]; exact h)
    (fun g u hg => by
      obtain ⟨k, hk, rfl⟩ := owedSend_pos c n g u hg
      rw [lv_recv, dist_ahead]; omega)

/-- A device owing anything of the launch's debts may wait at a lowest cell. -/
theorem mayWait_low (c : Dev nD) (n n' : ℕ) (sm : SemLoc sig) (h : lv ((c : Thread nD τ), sm) () = 0) :
    (levAts L lv : sProp 𝕄) ⊢ MayWait (c : Thread nD τ) sm () (owedBar c n + owedSend c n') := by
  have key : ∀ g u, 0 < (owedBar c n + owedSend c n') g u → (∃ d, g = barCell d) ∨ ∃ k : Fin 16, n' < k.val ∧ g = recvCell (ahead c k.val) c := by
    intro g u hg
    rw [Pi.add_apply, Finsupp.add_apply] at hg
    rcases Nat.eq_zero_or_pos (owedBar c n g u) with h0 | h1
    · exact .inr (owedSend_pos c n' g u (by omega))
    · exact .inl (owedBar_pos c n g u h1)
  exact MayOwe.of_cut (L := L) (lev := lv) 0
    (fun p hp => by rw [Finset.mem_singleton.mp hp, L_tc]; exact Finset.mem_singleton_self _)
    (fun g u hg => by rcases key g u hg with ⟨d, rfl⟩ | ⟨k, _, rfl⟩ <;> rw [L_tc] <;> exact Finset.mem_singleton_self _)
    (fun p hp => by rw [Finset.mem_singleton.mp hp]; exact h.le)
    (fun g u hg => by
      rcases key g u hg with ⟨d, rfl⟩ | ⟨k, _, rfl⟩
      · rw [lv_bar]; omega
      · rw [lv_recv]; omega)

end Cert.KernelIdeal.Proof
-- ==== Proof.Rules.lean ====
/-
  One step of the kernel at a time, on the pieces of its buffers: reading and writing a slot, starting and awaiting the
  local copy of a block of weights, signalling and awaiting the barrier, sending a block, awaiting a block and awaiting
  a send. Each is stated once, for every device, slot and distance, over the offsets the kernel prints.
-/
module

public import proofs.«01_k».proof.Proof.Protocol

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

abbrev 𝒱₀ : Variants := Variants.none

/-- The kernel on core `c` from `p` on, with nothing masked. -/
abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What core `c` owes, the waits it has made forgotten. -/
def owing (c : Dev nD) (O : CellTallies nD τ sig Unit) : sProp 𝕄 := iprop(∃ W : Waits sig Unit, owes (c : Thread nD τ) O W)

/-- What never changes while the kernel runs: every protocol cell has its invariant and has reached round 0, and the
    semaphores' levels. -/
def Recs (K : Dev nD × Kd → ℕ) : sProp 𝕄 :=
  iprop(bigSep Finset.univ (fun ck : Dev nD × Kd => iprop(cellInv ER (Rd m) (K ck) (kcell ck) ∗ reached ER (kcell ck) 0)) ∗ levAts L lv)

instance Recs_persistent (K : Dev nD × Kd → ℕ) : BI.Persistent (Recs m K) := by unfold Recs; infer_instance

variable (K : Dev nD × Kd → ℕ)

theorem Recs_cell (ck : Dev nD × Kd) : Recs m K ⊢ iprop(cellInv ER (Rd m) (K ck) (kcell ck) ∗ reached ER (kcell ck) 0) := by
  unfold Recs
  iintro ⟨H, -⟩
  iapply (show _ ⊢ iprop(cellInv ER (Rd m) (K ck) (kcell ck) ∗ reached ER (kcell ck) 0) from
    bigSep_elim (Φ := fun ck : Dev nD × Kd => iprop(cellInv ER (Rd m) (K ck) (kcell ck) ∗ reached ER (kcell ck) 0)) (Finset.mem_univ ck)) $$ H

theorem Recs_lev : Recs m K ⊢ levAts L lv := by
  unfold Recs
  iintro ⟨-, H⟩
  iexact H

section Memory

variable {α : Type} {c : Dev nD} {Q : α → sProp (MT nD τ sig Unit (Elt F) ℕ UU ℕ)}

/-- A program that is done. -/
theorem wpk_ret (a : α) : Q a ⊢ wpk c (.ret a) Q := by
  unfold wpk; rw [wp_ret]; exact fupd_intro

/-- The program asks which device it runs on. -/
theorem wpk_device (k : Dev nD → Prog (TpuEff nD τ sig (Elt F) Λ₀ .tc) α) : wpk c (k c) Q ⊢ wpk c (.op .deviceId k) Q := by
  unfold wpk; rw [wp_deviceId]

/-- An update may follow the program. -/
theorem wpk_fupd (p : Prog (TpuEff nD τ sig (Elt F) Λ₀ .tc) α) :
    wpk c p (fun a => iprop(|={Set.univ}=> Q a)) ⊢ wpk c p Q := by
  unfold wpk; apply wp_fupd

/-- A program run part by part. -/
theorem wpk_bind {β : Type} (p : Prog (TpuEff nD τ sig (Elt F) Λ₀ .tc) β) (k : β → Prog (TpuEff nD τ sig (Elt F) Λ₀ .tc) α) :
    wpk c p (fun b => wpk c (k b) Q) ⊢ wpk c (p >>= k) Q := by
  unfold wpk; rw [wp_bind]

/-! ## Reading and writing a piece -/

/-- Reading the piece of a buffer the program names, by the piece's own offset. -/
theorem load_piece {s : Shape} {cs : CoreSpace} {e : EltTy} {M : Memref sig .tc cs s e} {off off' sz : Fin s.rank → ℕ} {inb hs}
    {inb' : ∀ a, off' a + sz a ≤ s.size a} {hl : M.view.LoadsAt (Rect.unit off' sz inb').toLoadRect} {k : _ → Prog (TpuEff nD τ sig (Elt F) Λ₀ .tc) α} {q : PosShare TreeShare} {X}
    (h : off' = off) :
    owns (c : Thread nD τ) (M.slice (Rect.unit off sz inb) hs) q X
      ⊢ iprop((owns (c : Thread nD τ) (M.slice (Rect.unit off sz inb) hs) q X -∗ wpk c (k X) Q)
          -∗ wpk c (.op (.load M (Rect.unit off' sz inb').toLoadRect hl) k) Q) := by
  subst h
  unfold owns
  iintro ⟨%f, %hf, H⟩ Hk
  subst hf
  iapply (wp_load_rect 𝒱₀ (c : Thread nD τ) none Set.univ (m := M) (r := Rect.unit off' sz inb') (hl := hl)
    (S := (M.access (Rect.unit off' sz inb')).set) (Finset.Subset.refl _)) $$ H
  iintro H
  iapply Hk
  iexists f
  isplitr
  · ipureintro; rfl
  · iexact H

/-- Overwriting the piece of a buffer the program names. -/
theorem store_piece {s : Shape} {cs : CoreSpace} {e : EltTy} {M : Memref sig .tc cs s e} {off off' sz : Fin s.rank → ℕ} {inb hs}
    {inb' : ∀ a, off' a + sz a ≤ s.size a} {w : (Rect.unit off' sz inb').shape.Idx → Elt F e} {h₁ h₂}
    {k : PUnit → Prog (TpuEff nD τ sig (Elt F) Λ₀ .tc) α} {X}
    (h : off' = off) :
    owns (c : Thread nD τ) (M.slice (Rect.unit off sz inb) hs) fullShare X
      ⊢ iprop((owns (c : Thread nD τ) (M.slice (Rect.unit off sz inb) hs) fullShare w -∗ wpk c (k ⟨⟩) Q)
          -∗ wpk c (.op (.store M (Rect.unit off' sz inb') w Finset.univ h₁ h₂) k) Q) := by
  subst h
  unfold owns
  iintro ⟨%f, %hf, H⟩ Hk
  iapply (wp_store 𝒱₀ (c : Thread nD τ) none Set.univ (m := M) (r := Rect.unit off' sz inb') (Mk := Finset.univ) (hx := h₁) (hm := h₂)
    (S := (M.access (Rect.unit off' sz inb')).set) (Finset.Subset.refl _)) $$ H
  iintro H
  iapply Hk
  iexists _
  isplitr
  · ipureintro; exact View.read_write_univ f w
  · iexact H

/-- A block's elements are the same seen flat. -/
theorem pts_squeeze {s s' : Shape} {sp : Space} {e : EltTy} {M : Memref sig .tc sp s e} (h : s.Squeezes s') (c : Dev nD)
    (q : PosShare TreeShare) (f : Buf (Elt F) (M.view.loc (c : Thread nD τ))) :
    (((M.squeeze s' h).view.loc (c : Thread nD τ) ↦[(M.squeeze s' h).view.set]{q} f) : sProp 𝕄)
      = (M.view.loc (c : Thread nD τ) ↦[M.view.set]{q} f) := by
  have : (M.squeeze s' h).view.set = M.view.set := View.set_reshape _ _
  rw [this]

/-! ## The weights' local copies -/

/-- What a block of weights adds to its slot's semaphore when it has arrived. -/
def Nw : ℕ := (wbQ 0).view.amount (.dma (wS 0))

theorem Nw_pos : 0 < Nw := by unfold Nw; decide

/-- The share of the weights that the copies into slot `b` read through. -/
def half (b : Fin 2) : PosShare TreeShare := if b = 0 then fullShare.left else fullShare.right

/-- Slot `b`'s share of the weights, whole. -/
abbrev waHalf (c : Dev nD) (b : Fin 2) : sProp 𝕄 :=
  (waM.view.loc (c : Thread nD τ) ↦{half b} m ((c : Thread nD τ).loc main_arg1))

/-- Slot `b` at rest: its contents, its semaphore at zero and its share of the weights. -/
def wHome (c : Dev nD) (b : Fin 2) : sProp 𝕄 :=
  iprop((∃ X, wbOwn (F := F) c b X) ∗ semVal ((c : Thread nD τ), SemLoc.dma (wS b)) 0 ∗ waHalf m c b)

/-- Slot `b` while the rows of block `s` are on their way into it. -/
def wFly (c : Dev nD) (b : Fin 2) (s : Fin 16) : sProp 𝕄 :=
  iprop(Transfers.Flight EC (c : Thread nD τ) (.dma (wS b)) () Nw
      iprop(wbOwn c b (wbV m c s)
        ∗ ((waS s).view.loc (c : Thread nD τ) ↦[(waS s).view.set]{half b} m ((c : Thread nD τ).loc main_arg1)))
    ∗ (waM.view.loc (c : Thread nD τ) ↦[Finset.univ \ (waS s).view.set]{half b} m ((c : Thread nD τ).loc main_arg1)))

/-- Starting the copy of the rows of block `s` into slot `b`. -/
theorem weights_start (b : Fin 2) (s : Fin 16) {offA : Fin 2 → ℕ} {offW : Fin 3 → ℕ} {offS : Fin 1 → ℕ} {inbA inbW inbS}
    {h₁ h₂ h₃} {k : PUnit → Prog (TpuEff nD τ sig (Elt F) Λ₀ .tc) α}
    (hA : offA = ![512 * s.val, 0]) (hW : offW = ![b.val, 0, 0]) (hS : offS = ![b.val]) :
    wHome m c b
      ⊢ iprop((wFly m c b s -∗ wpk c (k ⟨⟩) Q)
          -∗ wpk c (.op (.enqueueDma (waM.slice (Rect.unit (s := S8192x4096) offA S512x4096.size inbA) (fun _ => rfl))
              (.here ((wbM.slice (Rect.unit (s := S2x512x4096) offW S1x512x4096.size inbW) (fun _ => rfl)).squeeze S512x4096 squeezes_S1x512x4096_S512x4096))
              (.dma ((cc0_scratch5.slice (Rect.unit (s := S2) offS S1.size inbS)).squeeze S_ squeezes_S1_S_).sem) h₁ h₂ h₃) k) Q) := by
  subst hA hW hS
  unfold wHome
  iintro ⟨⟨%X, Hw⟩, Hv, Ha⟩ Hk
  unfold wbOwn owns
  icases Hw with ⟨%f, -, Hw⟩
  ihave Ha := (show (waHalf m c b) ⊢ _ from (pointsTo_split_subset (Finset.subset_univ (waS s).view.set)).1) $$ Ha
  icases Ha with ⟨Ha, Har⟩
  ihave Hw := (Entails.of_eq (pts_squeeze squeezes_S1x512x4096_S512x4096 c fullShare f).symm) $$ Hw
  iapply (Transfers.wp_dmaLocal EC 𝒱₀ (c : Thread nD τ) none () Nw (src := waS s) (dst := wbQ b) (via := ReadAs.same) (sm := .dma (wS b)) rfl Nw_pos (Finset.Subset.refl _)) $$ [Hw Hv Ha]
  · isplitl [Ha]
    · iexact Ha
    isplitl [Hw]
    · iexact Hw
    · iexact Hv
  iintro Hf
  iapply Hk
  unfold wFly
  isplitl [Hf]
  · iapply (Transfers.Flight_mono EC ?_) $$ Hf
    iintro ⟨Hw, Ha⟩
    isplitl [Hw]
    · unfold wbOwn owns
      iexists _
      isplitr
      · ipureintro
        exact read_write_squeeze (wbS b) squeezes_S1x512x4096_S512x4096 f (waV m c s)
      · iapply (Entails.of_eq (pts_squeeze squeezes_S1x512x4096_S512x4096 c fullShare _)) $$ Hw
    · iexact Ha
  · iexact Har

/-- Awaiting it. -/
theorem weights_wait (b : Fin 2) (s : Fin 16) {O : CellTallies nD τ sig Unit} {offA : Fin 2 → ℕ} {offW : Fin 3 → ℕ} {offS : Fin 1 → ℕ} {inbA inbW inbS}
    {h₁ h₂} {k : PUnit → Prog (TpuEff nD τ sig (Elt F) Λ₀ .tc) α}
    (hA : offA = ![512 * s.val, 0]) (hW : offW = ![b.val, 0, 0]) (hS : offS = ![b.val]) :
    iprop(wFly m c b s ∗ owing c O ∗ MayWait (c : Thread nD τ) (.dma (wS b)) () O)
      ⊢ iprop((iprop(wbOwn c b (wbV m c s) ∗ semVal ((c : Thread nD τ), SemLoc.dma (wS b)) 0 ∗ waHalf m c b ∗ owing c O) -∗ wpk c (k ⟨⟩) Q)
          -∗ wpk c (.op (.waitDma2 ((cc0_scratch5.slice (Rect.unit (s := S2) offS S1.size inbS)).squeeze S_ squeezes_S1_S_).sem
              (waM.slice (Rect.unit (s := S8192x4096) offA S512x4096.size inbA) (fun _ => rfl))
              ((wbM.slice (Rect.unit (s := S2x512x4096) offW S1x512x4096.size inbW) (fun _ => rfl)).squeeze S512x4096 squeezes_S1x512x4096_S512x4096) h₁ h₂) k) Q) := by
  subst hA hW hS
  unfold wFly owing
  iintro ⟨⟨Hf, Har⟩, ⟨%W, HO⟩, HM⟩ Hk
  iapply (Transfers.wp_waitLocalO EC 𝒱₀ (c : Thread nD τ) none (sem := wS b) (srcw := waS s) (dstw := wbQ b) () (show (wbQ b).view.dmaCredit = Nw from rfl)) $$ [Hf HO HM]
  · isplitl [Hf]
    · iexact Hf
    isplitl [HO] <;> iassumption
  iintro ⟨⟨Hw, Ha⟩, Hv, HO⟩
  iapply Hk
  isplitl [Hw]
  · iexact Hw
  isplitl [Hv]
  · iexact Hv
  isplitl [Ha Har]
  · iapply (show _ ⊢ (waHalf m c b) from (pointsTo_split_subset (Finset.subset_univ (waS s).view.set)).2)
    isplitl [Ha]
    · iexact Ha
    · iexact Har
  · iexists _; iexact HO

/-! ## The barrier -/

/-- Signalling device `d`'s barrier: `d` is handed this device's gather slot `d`, unless `d` is this device. -/
theorem barrier_signal (d : Dev nD) {dv : Dev nD} {sem : Sem sig} {n : ℤ} {k : PUnit → Prog (TpuEff nD τ sig (Elt F) Λ₀ .tc) α}
    (hd : dv = d) (hs : sem = barS) (hn : n = ((1 : ℕ) : ℤ)) :
    iprop(Recs m K ∗ owing c (owedBar c d.val + owedSend c 0) ∗ dutyTok ER (barCell d) 0 c
        ∗ (Rd m).payload (barCell d) 0 c)
      ⊢ iprop((owing (F := F) c (owedBar c (d.val + 1) + owedSend c 0) -∗ wpk c (k ⟨⟩) Q)
          -∗ wpk c (.op (.semSignal ((dv, .tc) : Thread nD τ) sem n) k) Q) := by
  subst hd hs hn
  unfold owing
  iintro ⟨#HR, ⟨%W, HO⟩, Ht, Hp⟩ Hk
  ihave HI := (Recs_cell m K (dv, Kd.bar)) $$ HR
  icases HI with ⟨HI, Hr⟩
  iapply (Rounds.wp_signal 𝒱₀ ER (Rd m) (c : Thread nD τ) none (κ := K (dv, Kd.bar)) (dst := (dv : Thread nD τ)) (sem := barS) (r := 0) (d := c) (k' := 1)
      (by rw [show ((dv : Thread nD τ), SemLoc.reg barS) = barCell dv from rfl, duties_bar]; exact Finset.mem_univ _)
      (amount_bar m dv c) () (O₀ := owedBar c dv.val + owedSend c 0) (owedBar c (dv.val + 1) + owedSend c 0)
      (by rw [owedBar_step c dv]; exact add_right_comm _ _ _)) $$ [HI Hr HO Ht Hp]
  · isplitl [HI]
    · iexact HI
    isplitl [HO]
    · iexact HO
    isplitl [Ht]
    · iexact Ht
    isplitl [Hp]
    · iexact Hp
    · iexact Hr
  iintro HO
  iapply Hk
  iexists W; iexact HO

/-- Awaiting the barrier: every device has signalled, and each other device's gather slot for this one is in hand. -/
theorem barrier_wait {sem : Sem sig} {n : ℤ} {k : PUnit → Prog (TpuEff nD τ sig (Elt F) Λ₀ .tc) α}
    (hs : sem = barS) (hn : n = ((16 : ℕ) : ℤ)) :
    iprop(Recs m K ∗ cred (tallyAt (barCell c) () 16) ∗ owing c (owedSend c 0) ∗ atPos ER (barCell c) 0 ∅ 0)
      ⊢ iprop((iprop(owing c (owedSend c 0) ∗ atPos ER (barCell c) 1 ∅ 0
              ∗ bigSep Finset.univ fun d : Fin 16 => if d = c then iprop(emp) else iprop(∃ X, cmOwn (F := F) d c X)) -∗ wpk c (k ⟨⟩) Q)
          -∗ wpk c (.op (.semWait sem n) k) Q) := by
  subst hs hn
  unfold owing
  iintro ⟨#HR, Hc, ⟨%W, HO⟩, Ha⟩ Hk
  ihave HI := (Recs_cell m K (c, Kd.bar)) $$ HR
  icases HI with ⟨HI, -⟩
  ihave HM := ((Recs_lev m K).trans (mayWait_send c 0 (SemLoc.reg barS) (by rw [show (((c : Thread nD τ), SemLoc.reg barS) : GSem nD τ sig) = barCell c from rfl, lv_bar]; exact Nat.le_succ 1))) $$ HR
  iapply (Rounds.wp_wait_rest_token 𝒱₀ ER (Rd m) (c : Thread nD τ) none (wpE_semWait_eq 𝒱₀ (c : Thread nD τ) none Set.univ) (Set.mem_univ (K (c, Kd.bar))) ()
      (R := 0) (m := 0) (T := ∅) (by rw [show (((c : Thread nD τ), SemLoc.reg barS) : GSem nD τ sig) = barCell c from rfl, expect_bar])) $$ [HI Hc HO HM Ha]
  · isplitl [HI]
    · iexact HI
    isplitl [Hc]
    · iexact Hc
    isplitl [HO]
    · iexact HO
    isplitl [HM] <;> iassumption
  iintro ⟨HO, Ha, -, Hp⟩
  iapply Hk
  isplitl [HO]
  · iexists _; iexact HO
  isplitl [Ha]
  · iexact Ha
  · iapply (Entails.of_eq (rest_bar m c)) $$ Hp

/-! ## The blocks sent and received -/

/-- Sending device `ahead c k` its block. -/
theorem send_block (k : Fin 16) (n : ℕ) (hk : k.val = n + 1) {dv : Dev nD} {offS offD : Fin 3 → ℕ} {offs offr : Fin 1 → ℕ} {inbS inbD inbs inbr}
    {h₁ h₂ h₃} {kk : PUnit → Prog (TpuEff nD τ sig (Elt F) Λ₀ .tc) α}
    (hv : dv = ahead c k) (hS : offS = ![(ahead c k).val, 0, 0]) (hD : offD = ![c.val, 0, 0]) (hs : offs = ![k.val]) (hr : offr = ![c.val]) :
    iprop(Recs m K ∗ sbOwn c (ahead c k) (sbV m c (ahead c k)) ∗ dutyTok ER (sendCell c k) 0 0
        ∗ (∃ X, cmOwn (F := F) (ahead c k) c X) ∗ dutyTok ER (recvCell (ahead c k) c) 0 0 ∗ owing c (owedSend c n))
      ⊢ iprop((iprop(cred (tallyAt (sendCell c k) () N) ∗ owing c (owedSend c (n + 1))) -∗ wpk c (kk ⟨⟩) Q)
          -∗ wpk c (.op (.enqueueDma ((sbM.slice (Rect.unit (s := S16x512x512) offS S1x512x512.size inbS) (fun _ => rfl)).squeeze S512x512 squeezes_S1x512x512_S512x512)
              (.remote (Dev.tc dv) ((cmM.slice (Rect.unit (s := S16x512x512) offD S1x512x512.size inbD) (fun _ => rfl)).squeeze S512x512 squeezes_S1x512x512_S512x512)
                (.dma ((cc0_scratch3.slice (Rect.unit (s := S16) offs S1.size inbs)).squeeze S_ squeezes_S1_S_).sem))
              (.dma ((cc0_scratch4.slice (Rect.unit (s := S16) offr S1.size inbr)).squeeze S_ squeezes_S1_S_).sem) h₁ h₂ h₃) kk) Q) := by
  subst hv hS hD hs hr
  have hk0 : k.val ≠ 0 := by omega
  have hne : c ≠ ahead c k := fun h => ahead_ne c k (by omega) h.symm
  unfold owing
  iintro ⟨#HR, Hs, Ht₁, ⟨%Y, Hd⟩, Ht₂, ⟨%W, HO⟩⟩ Hk
  ihave HI₁ := (Recs_cell m K (c, Kd.send k)) $$ HR
  icases HI₁ with ⟨HI₁, Hr₁⟩
  ihave HI₂ := (Recs_cell m K (ahead c k, Kd.recv c)) $$ HR
  icases HI₂ with ⟨HI₂, Hr₂⟩
  unfold sbOwn cmOwn owns
  icases Hs with ⟨%f, %hf, Hs⟩
  icases Hd with ⟨%g, -, Hd⟩
  ihave Hs := (Entails.of_eq (pts_squeeze squeezes_S1x512x512_S512x512 c fullShare f).symm) $$ Hs
  ihave Hd := (Entails.of_eq (pts_squeeze squeezes_S1x512x512_S512x512 (ahead c k) fullShare g).symm) $$ Hd
  iapply (Rounds.wp_send_pointsTo 𝒱₀ ER (Rd m) (c : Thread nD τ) none (κ₁ := K (c, Kd.send k)) (κ₂ := K (ahead c k, Kd.recv c))
      (src := sbQ (ahead c k)) (dst := cmQ c) (c' := (ahead c k : Thread nD τ)) (sS := .dma (sendS k)) (sem := .dma (recvS c)) (r₁ := 0) (d₁ := 0) (r₂ := 0) (d₂ := 0) (q := fullShare) (fs := f) (fd := g)
      (by rw [show (((c : Thread nD τ), SemLoc.dma (sendS k)) : GSem nD τ sig) = sendCell c k from rfl, duties_send m c k hk0]; exact Finset.mem_singleton_self _)
      (by rw [show (((ahead c k : Thread nD τ), SemLoc.dma (recvS c)) : GSem nD τ sig) = recvCell (ahead c k) c from rfl, duties_recv m (ahead c k) c hne]; exact Finset.mem_singleton_self _)
      () () N (show (cmQ c).view.amount (.dma (recvS c)) = N from rfl) (amount_send m c k 0) (amount_recv m (ahead c k) c 0)
      (owedSend c (n + 1)) (owedSend_step c n k hk) ?_ ?_) $$ [HI₁ Hr₁ HI₂ Hr₂ Hs Ht₁ Hd Ht₂ HO]
  · rw [show (((c : Thread nD τ), SemLoc.dma (sendS k)) : GSem nD τ sig) = sendCell c k from rfl, payload_send]
    iintro H
    unfold sbOwn owns
    iexists f
    isplitr
    · ipureintro; exact hf
    · iapply (Entails.of_eq (pts_squeeze squeezes_S1x512x512_S512x512 c fullShare _)) $$ H
  · rw [show (((ahead c k : Thread nD τ), SemLoc.dma (recvS c)) : GSem nD τ sig) = recvCell (ahead c k) c from rfl, payload_recv]
    iintro H
    unfold cmOwn owns
    iexists _
    isplitr
    · ipureintro
      exact (read_write_squeeze_read (cmS c) (sbS (ahead c k)) squeezes_S1x512x512_S512x512 g f).trans hf
    · iapply (Entails.of_eq (pts_squeeze squeezes_S1x512x512_S512x512 (ahead c k) fullShare _)) $$ H
  · isplitl [HI₁]
    · iexact HI₁
    isplitl [HI₂]
    · iexact HI₂
    isplitl [Hs]
    · iexact Hs
    isplitl [Hd]
    · iexact Hd
    isplitl [HO]
    · iexact HO
    isplitl [Ht₁]
    · iexact Ht₁
    isplitl [Hr₁]
    · iexact Hr₁
    isplitl [Ht₂]
    · iexact Ht₂
    · iexact Hr₂
  iintro ⟨Hc, HO⟩
  iapply Hk
  isplitl [Hc]
  · iexact Hc
  · iexists W; iexact HO

/-- Awaiting the block of another device `s`, with every send up to the `n`-th made. -/
theorem recv_wait (s : Fin 16) (n : ℕ) (hsc : s ≠ c) (hn : (dist s c).val ≤ n) {offr : Fin 1 → ℕ} {offD offD' : Fin 3 → ℕ} {inbr inbD inbD'}
    {h₁ h₂} {k : PUnit → Prog (TpuEff nD τ sig (Elt F) Λ₀ .tc) α} (hr : offr = ![s.val]) :
    iprop(Recs m K ∗ cred (tallyAt (recvCell c s) () N) ∗ owing c (owedSend c n) ∗ atPos ER (recvCell c s) 0 ∅ 0)
      ⊢ iprop((iprop(owing c (owedSend c n) ∗ atPos ER (recvCell c s) 1 ∅ 0 ∗ cmOwn c s (sbV m s c)) -∗ wpk c (k ⟨⟩) Q)
          -∗ wpk c (.op (.waitDma2 ((cc0_scratch4.slice (Rect.unit (s := S16) offr S1.size inbr)).squeeze S_ squeezes_S1_S_).sem
              ((cmM.slice (Rect.unit (s := S16x512x512) offD S1x512x512.size inbD) (fun _ => rfl)).squeeze S512x512 squeezes_S1x512x512_S512x512)
              ((cmM.slice (Rect.unit (s := S16x512x512) offD' S1x512x512.size inbD') (fun _ => rfl)).squeeze S512x512 squeezes_S1x512x512_S512x512) h₁ h₂) k) Q) := by
  subst hr
  unfold owing
  iintro ⟨#HR, Hc, ⟨%W, HO⟩, Ha⟩ Hk
  ihave HI := (Recs_cell m K (c, Kd.recv s)) $$ HR
  icases HI with ⟨HI, -⟩
  ihave HM := ((Recs_lev m K).trans (mayWait_send c n (SemLoc.dma (recvS s)) (by rw [show (((c : Thread nD τ), SemLoc.dma (recvS s)) : GSem nD τ sig) = recvCell c s from rfl, lv_recv]; exact Nat.add_le_add_left hn 2))) $$ HR
  iapply (Rounds.wp_wait_rest_token 𝒱₀ ER (Rd m) (c : Thread nD τ) none (wpE_waitDma2_eq 𝒱₀ (c : Thread nD τ) none Set.univ) (Set.mem_univ (K (c, Kd.recv s))) ()
      (R := 0) (m := 0) (T := ∅) (by rw [show (((c : Thread nD τ), SemLoc.dma (recvS s)) : GSem nD τ sig) = recvCell c s from rfl, expect_recv m c s hsc, Nat.zero_add]; rfl)) $$ [HI Hc HO HM Ha]
  · isplitl [HI]
    · iexact HI
    isplitl [Hc]
    · iexact Hc
    isplitl [HO]
    · iexact HO
    isplitl [HM] <;> iassumption
  iintro ⟨HO, Ha, -, Hp⟩
  iapply Hk
  isplitl [HO]
  · iexists _; iexact HO
  isplitl [Ha]
  · iexact Ha
  · iapply (Entails.of_eq (rest_recv m c s hsc)) $$ Hp

/-- Awaiting the `k`-th send's departure, all sends made: the send slot comes back. -/
theorem send_wait (k : Fin 16) (hk : k.val ≠ 0) {offs : Fin 1 → ℕ} {offS offD : Fin 3 → ℕ} {inbs inbS inbD}
    {h₁ h₂} {kk : PUnit → Prog (TpuEff nD τ sig (Elt F) Λ₀ .tc) α} (hs : offs = ![k.val]) :
    iprop(Recs m K ∗ cred (tallyAt (sendCell c k) () N) ∗ owing c (0 : CellTallies nD τ sig Unit) ∗ atPos ER (sendCell c k) 0 ∅ 0)
      ⊢ iprop((iprop(owing c (0 : CellTallies nD τ sig Unit) ∗ atPos ER (sendCell c k) 1 ∅ 0 ∗ sbOwn c (ahead c k) (sbV m c (ahead c k))) -∗ wpk c (kk ⟨⟩) Q)
          -∗ wpk c (.op (.waitDma2 ((cc0_scratch3.slice (Rect.unit (s := S16) offs S1.size inbs)).squeeze S_ squeezes_S1_S_).sem
              ((cmM.slice (Rect.unit (s := S16x512x512) offD S1x512x512.size inbD) (fun _ => rfl)).squeeze S512x512 squeezes_S1x512x512_S512x512)
              ((sbM.slice (Rect.unit (s := S16x512x512) offS S1x512x512.size inbS) (fun _ => rfl)).squeeze S512x512 squeezes_S1x512x512_S512x512) h₁ h₂) kk) Q) := by
  subst hs
  unfold owing
  iintro ⟨#HR, Hc, ⟨%W, HO⟩, Ha⟩ Hk
  ihave HI := (Recs_cell m K (c, Kd.send k)) $$ HR
  icases HI with ⟨HI, -⟩
  iapply (Rounds.wp_wait_rest_token 𝒱₀ ER (Rd m) (c : Thread nD τ) none (wpE_waitDma2_eq 𝒱₀ (c : Thread nD τ) none Set.univ) (Set.mem_univ (K (c, Kd.send k))) ()
      (R := 0) (m := 0) (T := ∅) (by rw [show (((c : Thread nD τ), SemLoc.dma (sendS k)) : GSem nD τ sig) = sendCell c k from rfl, expect_send m c k hk, Nat.zero_add]; rfl)) $$ [HI Hc HO Ha]
  · isplitl [HI]
    · iexact HI
    isplitl [Hc]
    · iexact Hc
    isplitl [HO]
    · iexact HO
    isplitr
    · rw [MayWait_zero]; iempintro
    · iexact Ha
  iintro ⟨HO, Ha, -, Hp⟩
  iapply Hk
  isplitl [HO]
  · iexists _; iexact HO
  isplitl [Ha]
  · iexact Ha
  · iapply (Entails.of_eq (rest_send m c k hk)) $$ Hp

end Memory

end Cert.KernelIdeal.Proof

end
-- ==== Proof.State.lean ====
/-
  What a device holds between two steps of the kernel, and how each of the program's operations changes it.

  The state is counted: `fillSt n` has the first `n` send slots filled, `signSt n` the first `n` devices signalled,
  `sendSt n` the first `n` sends made, `recvSt n` the first `n` blocks of the others received, `doneSt n` the first `n`
  sends' departures awaited. Each operation moves one count by one.
-/
module

public import proofs.«01_k».proof.Proof.Rules

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ) (K : Dev nD × Kd → ℕ)

/-- Changing one member of a family: take it out, put its successor in. -/
theorem family_step {f g : Fin 16 → sProp (MT nD τ sig Unit (Elt F) ℕ UU ℕ)} (k : Fin 16) (h : ∀ j, j ≠ k → f j = g j) :
    bigSep Finset.univ f ⊢ iprop(f k ∗ (g k -∗ bigSep Finset.univ g)) := by
  rw [bigSep_univ_at f k, bigSep_univ_at g k, bigSep_congr (s := Finset.univ.erase k) fun j hj => h j (Finset.ne_of_mem_erase hj)]
  iintro ⟨Hk, Hr⟩
  isplitl [Hk]
  · iexact Hk
  · iintro Hg
    isplitl [Hg] <;> iassumption

/-! ## The states -/

/-- The send buffer, its first `n` slots filled. -/
def fillSt (c : Dev nD) (n : ℕ) : sProp 𝕄 :=
  bigSep Finset.univ fun j : Fin 16 => if j.val < n then sbOwn c j (sbV m c j) else iprop(∃ X, sbOwn (F := F) c j X)

/-- The right to signal the devices from the `n`-th on, and the gather slots they are to be handed. -/
def signSt (c : Dev nD) (n : ℕ) : sProp 𝕄 :=
  bigSep Finset.univ fun d : Fin 16 => if d.val < n then iprop(emp) else iprop(dutyTok ER (barCell d) 0 c ∗ (Rd m).payload (barCell d) 0 c)

/-- The sends: the first `n` are made, the others have all they need. Number 0 is the slot that stays at home. -/
def sendSt (c : Dev nD) (n : ℕ) : sProp 𝕄 :=
  bigSep Finset.univ fun k : Fin 16 =>
    if k.val = 0 then sbOwn c (ahead c k) (sbV m c (ahead c k))
    else if k.val ≤ n then cred (tallyAt (sendCell c k) () N)
    else iprop(sbOwn c (ahead c k) (sbV m c (ahead c k)) ∗ dutyTok ER (sendCell c k) 0 0
        ∗ (∃ X, cmOwn (F := F) (ahead c k) c X) ∗ dutyTok ER (recvCell (ahead c k) c) 0 0)

/-- The gather buffer: the first `n` blocks of the others are in, the rest announced. Number 0 is this device's own. -/
def recvSt (c : Dev nD) (n : ℕ) : sProp 𝕄 :=
  bigSep Finset.univ fun u : Fin 16 =>
    if u.val ≤ n then iprop(cmOwn c (behind c u) (sbV m (behind c u) c) ∗ atPos ER (recvCell c (behind c u)) (if u.val = 0 then 0 else 1) ∅ 0)
    else iprop(cred (tallyAt (recvCell c (behind c u)) () N) ∗ atPos ER (recvCell c (behind c u)) 0 ∅ 0)

/-- All sends made and the first `n` departures awaited. -/
def doneSt (c : Dev nD) (n : ℕ) : sProp 𝕄 :=
  bigSep Finset.univ fun k : Fin 16 =>
    if k.val ≤ n then iprop(sbOwn c (ahead c k) (sbV m c (ahead c k)) ∗ atPos ER (sendCell c k) (if k.val = 0 then 0 else 1) ∅ 0)
    else iprop(cred (tallyAt (sendCell c k) () N) ∗ atPos ER (sendCell c k) 0 ∅ 0)

/-- The sends' cells, untouched. -/
def sendPos (c : Dev nD) : sProp 𝕄 := bigSep Finset.univ fun k : Fin 16 => atPos ER (sendCell c k) 0 ∅ 0

/-- The rights to make the sends. -/
def sendTok (c : Dev nD) : sProp 𝕄 :=
  bigSep Finset.univ fun k : Fin 16 => if k.val = 0 then iprop(emp) else iprop(dutyTok ER (sendCell c k) 0 0 ∗ dutyTok ER (recvCell (ahead c k) c) 0 0)

/-- The blocks of the others, announced. -/
def recvPre (c : Dev nD) : sProp 𝕄 :=
  bigSep Finset.univ fun u : Fin 16 =>
    if u.val ≤ 0 then atPos ER (recvCell c (behind c u)) 0 ∅ 0
    else iprop(cred (tallyAt (recvCell c (behind c u)) () N) ∗ atPos ER (recvCell c (behind c u)) 0 ∅ 0)

/-- With the send buffer full and every other device's gather slot for this one in hand, the sends are ready. -/
theorem send_ready (c : Dev nD) :
    iprop(fillSt m c 16 ∗ (bigSep Finset.univ fun d : Fin 16 => if d = c then iprop(emp) else iprop(∃ X, cmOwn (F := F) d c X)) ∗ sendTok c)
      ⊢ sendSt m c 0 := by
  unfold fillSt sendTok sendSt
  rw [bigSep_univ_equiv (aheadEquiv c) (fun j : Fin 16 => if j.val < 16 then sbOwn c j (sbV m c j) else iprop(∃ X, sbOwn (F := F) c j X)),
    bigSep_univ_equiv (aheadEquiv c) (fun d : Fin 16 => if d = c then iprop(emp) else iprop(∃ X, cmOwn (F := F) d c X)), ← bigSep_sep', ← bigSep_sep']
  refine bigSep_mono fun k _ => ?_
  rw [show aheadEquiv c k = ahead c k from rfl, if_pos (ahead c k).isLt]
  change (_ : sProp 𝕄) ⊢ _
  by_cases hk : k.val = 0
  · simp only [hk, if_true]
    iintro ⟨H, -, -⟩
    iexact H
  · rw [if_neg (ahead_ne c k hk), if_neg hk, if_neg hk, if_neg (by omega)]
    iintro ⟨Hs, Hd, Ht₁, Ht₂⟩
    isplitl [Hs]
    · iexact Hs
    isplitl [Ht₁]
    · iexact Ht₁
    isplitl [Hd] <;> iassumption

/-- With the device's own block in its gather slot, the reception is ready. -/
theorem recv_ready (c : Dev nD) : iprop(cmOwn c c (sbV m c c) ∗ recvPre c) ⊢ recvSt m c 0 := by
  unfold recvPre recvSt
  iintro ⟨Hc, H⟩
  ihave H := (family_step (g := fun u : Fin 16 => if u.val ≤ 0 then iprop(cmOwn c (behind c u) (sbV m (behind c u) c) ∗ atPos ER (recvCell c (behind c u)) (if u.val = 0 then 0 else 1) ∅ 0)
    else iprop(cred (tallyAt (recvCell c (behind c u)) () N) ∗ atPos ER (recvCell c (behind c u)) 0 ∅ 0)) 0
    (fun i hi => by
      have : i.val ≠ 0 := fun e => hi (Fin.ext e)
      rw [if_neg (by omega), if_neg (by omega)])) $$ H
  rw [show ((0 : Fin 16) : ℕ) = 0 from rfl, if_pos (Nat.le_refl 0), if_pos (Nat.le_refl 0), if_pos rfl, behind_zero]
  icases H with ⟨Ha, Hr⟩
  iapply Hr
  isplitl [Hc] <;> iassumption

section Steps

variable {α : Type} {c : Dev nD} {Q : α → sProp (MT nD τ sig Unit (Elt F) ℕ UU ℕ)}

/-! ## Filling the send buffer -/

/-- Rows `512 j …` of the staged columns of `x`. -/
theorem load_rows (j : Fin 16) {M : Memref sig .tc .vmem S8192x512 .f32} {off : Fin 2 → ℕ} {inb} {hl : M.view.LoadsAt (Rect.unit (s := S8192x512) off S512x512.size inb).toLoadRect}
    {k : _ → Prog (TpuEff nD τ sig (Elt F) Λ₀ .tc) α} (h : off = ![512 * j.val, 0]) :
    owns (c : Thread nD τ) M fullShare (xst m c)
      ⊢ iprop((owns (c : Thread nD τ) M fullShare (xst m c) -∗ wpk c (k (xRows m c j)) Q)
          -∗ wpk c (.op (.load M (Rect.unit (s := S8192x512) off S512x512.size inb).toLoadRect hl) k) Q) := by
  subst h
  unfold owns
  iintro ⟨%f, %hf, H⟩ Hk
  have e : M.view.readAt (Elt F) (Rect.unit (s := S8192x512) ![512 * j.val, 0] S512x512.size inb).toLoadRect f = xRows m c j := by
    unfold xRows; rw [← hf]; rfl
  iapply (wp_load 𝒱₀ (c : Thread nD τ) none Set.univ (m := M) (hl := hl) (S := M.view.set) (M.view.setOn_subset_set _)) $$ H
  iintro H
  rw [e]
  iapply Hk
  iexists f
  isplitr
  · ipureintro; exact hf
  · iexact H

/-- Reading a send slot while the buffer is being filled: what it reads is not used. -/
theorem load_slot (j : Fin 16) (n : ℕ) {off : Fin 3 → ℕ} {inb} {hl : sbM.view.LoadsAt (Rect.unit (s := S16x512x512) off S1x512x512.size inb).toLoadRect}
    {k : _ → Prog (TpuEff nD τ sig (Elt F) Λ₀ .tc) α} (h : off = ![j.val, 0, 0]) :
    fillSt m c n
      ⊢ iprop((∀ v, fillSt m c n -∗ wpk c (k v) Q)
          -∗ wpk c (.op (.load sbM (Rect.unit (s := S16x512x512) off S1x512x512.size inb).toLoadRect hl) k) Q) := by
  unfold fillSt
  iintro H Hk
  ihave H := (family_step j (fun _ _ => rfl)) $$ H
  icases H with ⟨Hj, Hr⟩
  split
  · iapply (load_piece h) $$ Hj
    iintro Hj
    iapply Hk
    iapply Hr $$ Hj
  · icases Hj with ⟨%X, Hj⟩
    iapply (load_piece h) $$ Hj
    iintro Hj
    iapply Hk
    iapply Hr
    iexists X; iexact Hj

/-- Reading a slot of the full send buffer. -/
theorem load_full (j : Fin 16) {off : Fin 3 → ℕ} {inb} {hl : sbM.view.LoadsAt (Rect.unit (s := S16x512x512) off S1x512x512.size inb).toLoadRect}
    {k : (S1x512x512.Idx → Elt F .bf16) → Prog (TpuEff nD τ sig (Elt F) Λ₀ .tc) α} (h : off = ![j.val, 0, 0]) :
    fillSt m c 16
      ⊢ iprop((fillSt m c 16 -∗ wpk c (k (sbV m c j)) Q)
          -∗ wpk c (.op (.load sbM (Rect.unit (s := S16x512x512) off S1x512x512.size inb).toLoadRect hl) k) Q) := by
  unfold fillSt
  iintro H Hk
  ihave H := (family_step j (fun _ _ => rfl)) $$ H
  rw [if_pos j.isLt]
  icases H with ⟨Hj, Hr⟩
  iapply (load_piece h) $$ Hj
  iintro Hj
  iapply Hk
  iapply Hr $$ Hj

/-- Filling the next send slot. -/
theorem fill_slot (j : Fin 16) {off : Fin 3 → ℕ} {inb} {w : (Rect.unit (s := S16x512x512) off S1x512x512.size inb).shape.Idx → Elt F .bf16} {h₁ h₂}
    {k : PUnit → Prog (TpuEff nD τ sig (Elt F) Λ₀ .tc) α} (h : off = ![j.val, 0, 0]) (hw : w = sbV m c j) (n n' : ℕ) (hn : j.val = n) (hn' : n + 1 = n') :
    fillSt m c n
      ⊢ iprop((fillSt m c n' -∗ wpk c (k ⟨⟩) Q)
          -∗ wpk c (.op (.store sbM (Rect.unit (s := S16x512x512) off S1x512x512.size inb) w Finset.univ h₁ h₂) k) Q) := by
  subst hn hn'
  unfold fillSt
  iintro H Hk
  ihave H := (family_step (g := fun i : Fin 16 => if i.val < j.val + 1 then sbOwn c i (sbV m c i) else iprop(∃ X, sbOwn (F := F) c i X)) j
    (fun i hi => by
      have : i.val ≠ j.val := fun e => hi (Fin.ext e)
      simp only [show i.val < j.val ↔ i.val < j.val + 1 from by omega])) $$ H
  rw [if_neg (lt_irrefl _), if_pos (Nat.lt_succ_self _)]
  icases H with ⟨⟨%X, Hj⟩, Hr⟩
  iapply (store_piece h) $$ Hj
  iintro Hj
  iapply Hk
  iapply Hr
  rw [← hw]
  iexact Hj

/-- Filling the next send slot from the rows of `x` it takes: the program's three operations at once. -/
theorem fill_step (j : Fin 16) {M : Memref sig .tc .vmem S8192x512 .f32} {off : Fin 2 → ℕ} {off' : Fin 3 → ℕ} {inb inb' inb''}
    {hl : M.view.LoadsAt (Rect.unit (s := S8192x512) off S512x512.size inb).toLoadRect} {hl' : sbM.view.LoadsAt (Rect.unit (s := S16x512x512) off' S1x512x512.size inb').toLoadRect}
    {p : Vec F S512x512 .f32 → FVec F S1x512x512 .bf16} {h₁ : ∀ v : Vec F S512x512 .f32, (sbM.access (Rect.unit (s := S16x512x512) off' S1x512x512.size inb'')).Stores Finset.univ} {h₂}
    {k : PUnit → Prog (TpuEff nD τ sig (Elt F) Λ₀ .tc) α}
    (h : off = ![512 * j.val, 0]) (h' : off' = ![j.val, 0, 0]) (hp : p (xRows m c j) = sbV m c j) (n n' : ℕ) (hn : j.val = n) (hn' : n + 1 = n') :
    iprop(owns (c : Thread nD τ) M fullShare (xst m c) ∗ fillSt m c n)
      ⊢ iprop((iprop(owns (c : Thread nD τ) M fullShare (xst m c) ∗ fillSt m c n') -∗ wpk c (k ⟨⟩) Q)
          -∗ wpk c (.op (.load M (Rect.unit (s := S8192x512) off S512x512.size inb).toLoadRect hl) fun v =>
              .op (.load sbM (Rect.unit (s := S16x512x512) off' S1x512x512.size inb').toLoadRect hl') fun _ =>
              .op (.store sbM (Rect.unit (s := S16x512x512) off' S1x512x512.size inb'') (p v) Finset.univ (h₁ v) h₂) k) Q) := by
  iintro ⟨Hx, Hf⟩ Hk
  iapply (load_rows m j h) $$ Hx
  iintro Hx
  iapply (load_slot m j n h') $$ Hf
  iintro %v Hf
  iapply (fill_slot m j h' hp n n' hn hn') $$ Hf
  iintro Hf
  iapply Hk
  isplitl [Hx] <;> iassumption

/-! ## The barrier -/

theorem sign_step (d : Dev nD) {dv : Dev nD} {sem : Sem sig} {n : ℤ} {k : PUnit → Prog (TpuEff nD τ sig (Elt F) Λ₀ .tc) α}
    (hd : dv.val = d.val) (hs : sem = barS) (hn : n = ((1 : ℕ) : ℤ)) (b b' : ℕ) (hb : d.val = b) (hb' : b + 1 = b') :
    iprop(Recs m K ∗ owing c (owedBar c b + owedSend c 0) ∗ signSt m c b)
      ⊢ iprop((iprop(owing c (owedBar c b' + owedSend c 0) ∗ signSt m c b') -∗ wpk c (k ⟨⟩) Q)
          -∗ wpk c (.op (.semSignal ((dv, .tc) : Thread nD τ) sem n) k) Q) := by
  subst hb hb'
  iintro ⟨#HR, HO, H⟩ Hk
  unfold signSt
  ihave H := (family_step (g := fun i : Fin 16 => if i.val < d.val + 1 then iprop(emp) else iprop(dutyTok ER (barCell i) 0 c ∗ (Rd m).payload (barCell i) 0 c)) d
    (fun i hi => by
      have : i.val ≠ d.val := fun e => hi (Fin.ext e)
      simp only [show i.val < d.val ↔ i.val < d.val + 1 from by omega])) $$ H
  rw [if_neg (lt_irrefl _), if_pos (Nat.lt_succ_self _)]
  icases H with ⟨⟨Ht, Hp⟩, Hr⟩
  iapply (barrier_signal m K d (Fin.ext hd) hs hn) $$ [HO Ht Hp]
  · isplitr
    · iexact HR
    isplitl [HO]
    · iexact HO
    isplitl [Ht] <;> iassumption
  iintro HO
  iapply Hk
  isplitl [HO]
  · iexact HO
  · iapply Hr; iempintro

/-! ## Sending -/

theorem send_step (k : Fin 16) (n n' : ℕ) (hk : k.val = n + 1) (hn' : n + 1 = n') {dv : Dev nD} {offS offD : Fin 3 → ℕ} {offs offr : Fin 1 → ℕ} {inbS inbD inbs inbr}
    {h₁ h₂ h₃} {kk : PUnit → Prog (TpuEff nD τ sig (Elt F) Λ₀ .tc) α}
    (hv : dv.val = (ahead c k).val) (hS : offS = ![(ahead c k).val, 0, 0]) (hD : offD = ![c.val, 0, 0]) (hs : offs = ![k.val]) (hr : offr = ![c.val]) :
    iprop(Recs m K ∗ owing c (owedSend c n) ∗ sendSt m c n)
      ⊢ iprop((iprop(owing c (owedSend c n') ∗ sendSt m c n') -∗ wpk c (kk ⟨⟩) Q)
          -∗ wpk c (.op (.enqueueDma ((sbM.slice (Rect.unit (s := S16x512x512) offS S1x512x512.size inbS) (fun _ => rfl)).squeeze S512x512 squeezes_S1x512x512_S512x512)
              (.remote (Dev.tc dv) ((cmM.slice (Rect.unit (s := S16x512x512) offD S1x512x512.size inbD) (fun _ => rfl)).squeeze S512x512 squeezes_S1x512x512_S512x512)
                (.dma ((cc0_scratch3.slice (Rect.unit (s := S16) offs S1.size inbs)).squeeze S_ squeezes_S1_S_).sem))
              (.dma ((cc0_scratch4.slice (Rect.unit (s := S16) offr S1.size inbr)).squeeze S_ squeezes_S1_S_).sem) h₁ h₂ h₃) kk) Q) := by
  subst hn'
  iintro ⟨#HR, HO, H⟩ Hk
  unfold sendSt
  ihave H := (family_step (g := fun k : Fin 16 => if k.val = 0 then sbOwn c (ahead c k) (sbV m c (ahead c k))
    else if k.val ≤ n + 1 then cred (tallyAt (sendCell c k) () N)
    else iprop(sbOwn c (ahead c k) (sbV m c (ahead c k)) ∗ dutyTok ER (sendCell c k) 0 0
        ∗ (∃ X, cmOwn (F := F) (ahead c k) c X) ∗ dutyTok ER (recvCell (ahead c k) c) 0 0)) k
    (fun i hi => by
      have : i.val ≠ k.val := fun e => hi (Fin.ext e)
      simp only [show i.val ≤ n ↔ i.val ≤ n + 1 from by omega])) $$ H
  rw [if_neg (by omega), if_neg (by omega), if_neg (by omega), if_pos (by omega)]
  icases H with ⟨⟨Hs, Ht₁, Hd, Ht₂⟩, Hr⟩
  iapply (send_block m K k n hk (Fin.ext hv) hS hD hs hr) $$ [HO Hs Ht₁ Hd Ht₂]
  · isplitr
    · iexact HR
    isplitl [Hs]
    · iexact Hs
    isplitl [Ht₁]
    · iexact Ht₁
    isplitl [Hd]
    · iexact Hd
    isplitl [Ht₂] <;> iassumption
  iintro ⟨Hc, HO⟩
  iapply Hk
  isplitl [HO]
  · iexact HO
  · iapply Hr $$ Hc

/-! ## Receiving -/

theorem recv_step (u : Fin 16) (r r' n : ℕ) (hr : u.val = r + 1) (hr' : r + 1 = r') (hn : u.val ≤ n) {offr : Fin 1 → ℕ} {offD offD' : Fin 3 → ℕ} {inbr inbD inbD'}
    {h₁ h₂} {k : PUnit → Prog (TpuEff nD τ sig (Elt F) Λ₀ .tc) α} (ho : offr = ![(behind c u).val]) :
    iprop(Recs m K ∗ owing c (owedSend c n) ∗ recvSt m c r)
      ⊢ iprop((iprop(owing c (owedSend c n) ∗ recvSt m c r') -∗ wpk c (k ⟨⟩) Q)
          -∗ wpk c (.op (.waitDma2 ((cc0_scratch4.slice (Rect.unit (s := S16) offr S1.size inbr)).squeeze S_ squeezes_S1_S_).sem
              ((cmM.slice (Rect.unit (s := S16x512x512) offD S1x512x512.size inbD) (fun _ => rfl)).squeeze S512x512 squeezes_S1x512x512_S512x512)
              ((cmM.slice (Rect.unit (s := S16x512x512) offD' S1x512x512.size inbD') (fun _ => rfl)).squeeze S512x512 squeezes_S1x512x512_S512x512) h₁ h₂) k) Q) := by
  subst hr'
  iintro ⟨#HR, HO, H⟩ Hk
  unfold recvSt
  ihave H := (family_step (g := fun u : Fin 16 => if u.val ≤ r + 1 then iprop(cmOwn c (behind c u) (sbV m (behind c u) c) ∗ atPos ER (recvCell c (behind c u)) (if u.val = 0 then 0 else 1) ∅ 0)
    else iprop(cred (tallyAt (recvCell c (behind c u)) () N) ∗ atPos ER (recvCell c (behind c u)) 0 ∅ 0)) u
    (fun i hi => by
      have : i.val ≠ u.val := fun e => hi (Fin.ext e)
      simp only [show i.val ≤ r ↔ i.val ≤ r + 1 from by omega])) $$ H
  rw [if_neg (by omega), if_pos (by omega), if_neg (by omega)]
  icases H with ⟨⟨Hc, Ha⟩, Hr⟩
  iapply (recv_wait m K (behind c u) n (behind_ne c u (by omega)) (by rw [dist_behind]; exact hn) ho) $$ [HO Hc Ha]
  · isplitr
    · iexact HR
    isplitl [Hc]
    · iexact Hc
    isplitl [HO] <;> iassumption
  iintro ⟨HO, Ha, Hb⟩
  iapply Hk
  isplitl [HO]
  · iexact HO
  · iapply Hr
    isplitl [Hb] <;> iassumption

/-- Reading a block that is in. -/
theorem load_block (u : Fin 16) (n : ℕ) (hu : u.val ≤ n) {off : Fin 3 → ℕ} {inb} {hl : cmM.view.LoadsAt (Rect.unit (s := S16x512x512) off S1x512x512.size inb).toLoadRect}
    {k : (S1x512x512.Idx → Elt F .bf16) → Prog (TpuEff nD τ sig (Elt F) Λ₀ .tc) α} (h : off = ![(behind c u).val, 0, 0]) :
    recvSt m c n
      ⊢ iprop((recvSt m c n -∗ wpk c (k (sbV m (behind c u) c)) Q)
          -∗ wpk c (.op (.load cmM (Rect.unit (s := S16x512x512) off S1x512x512.size inb).toLoadRect hl) k) Q) := by
  unfold recvSt
  iintro H Hk
  ihave H := (family_step u (fun _ _ => rfl)) $$ H
  rw [if_pos hu]
  icases H with ⟨⟨Hj, Ha⟩, Hr⟩
  iapply (load_piece h) $$ Hj
  iintro Hj
  iapply Hk
  iapply Hr
  isplitl [Hj] <;> iassumption

/-! ## Awaiting the departures -/

theorem done_step (k : Fin 16) (n n' : ℕ) (hk : k.val = n + 1) (hn' : n + 1 = n') {offs : Fin 1 → ℕ} {offS offD : Fin 3 → ℕ} {inbs inbS inbD}
    {h₁ h₂} {kk : PUnit → Prog (TpuEff nD τ sig (Elt F) Λ₀ .tc) α} (hs : offs = ![k.val]) :
    iprop(Recs m K ∗ owing c (0 : CellTallies nD τ sig Unit) ∗ doneSt m c n)
      ⊢ iprop((iprop(owing c (0 : CellTallies nD τ sig Unit) ∗ doneSt m c n') -∗ wpk c (kk ⟨⟩) Q)
          -∗ wpk c (.op (.waitDma2 ((cc0_scratch3.slice (Rect.unit (s := S16) offs S1.size inbs)).squeeze S_ squeezes_S1_S_).sem
              ((cmM.slice (Rect.unit (s := S16x512x512) offD S1x512x512.size inbD) (fun _ => rfl)).squeeze S512x512 squeezes_S1x512x512_S512x512)
              ((sbM.slice (Rect.unit (s := S16x512x512) offS S1x512x512.size inbS) (fun _ => rfl)).squeeze S512x512 squeezes_S1x512x512_S512x512) h₁ h₂) kk) Q) := by
  subst hn'
  iintro ⟨#HR, HO, H⟩ Hk
  unfold doneSt
  ihave H := (family_step (g := fun k : Fin 16 => if k.val ≤ n + 1 then iprop(sbOwn c (ahead c k) (sbV m c (ahead c k)) ∗ atPos ER (sendCell c k) (if k.val = 0 then 0 else 1) ∅ 0)
    else iprop(cred (tallyAt (sendCell c k) () N) ∗ atPos ER (sendCell c k) 0 ∅ 0)) k
    (fun i hi => by
      have : i.val ≠ k.val := fun e => hi (Fin.ext e)
      simp only [show i.val ≤ n ↔ i.val ≤ n + 1 from by omega])) $$ H
  rw [if_neg (by omega), if_pos (by omega), if_neg (by omega)]
  icases H with ⟨⟨Hc, Ha⟩, Hr⟩
  iapply (send_wait m K k (by omega) hs) $$ [HO Hc Ha]
  · isplitr
    · iexact HR
    isplitl [Hc]
    · iexact Hc
    isplitl [HO] <;> iassumption
  iintro ⟨HO, Ha, Hb⟩
  iapply Hk
  isplitl [HO]
  · iexact HO
  · iapply Hr
    isplitl [Hb] <;> iassumption

/-! ## The output's staging buffer -/

theorem read_all {M : Memref sig .tc .vmem S512x4096 .f32} {inb} (f : M.view.ty.Contents (Elt F)) :
    (M.view.slice (Rect.unit (s := S512x4096) (fun _ => 0) S512x4096.size inb)).read (Elt F) f = M.view.read (Elt F) f :=
  funext fun i => congrArg (M.view.read (Elt F) f) (Rect.emb_whole_apply (s := S512x4096) i)

theorem load_out {M : Memref sig .tc .vmem S512x4096 .f32} {X : Vec F S512x4096 .f32} {off : Fin 2 → ℕ} {inb} {hl : M.view.LoadsAt (Rect.unit (s := S512x4096) off S512x4096.size inb).toLoadRect}
    {k : _ → Prog (TpuEff nD τ sig (Elt F) Λ₀ .tc) α} (h : off = fun _ => 0) :
    owns (c : Thread nD τ) M fullShare X
      ⊢ iprop((owns (c : Thread nD τ) M fullShare X -∗ wpk c (k X) Q)
          -∗ wpk c (.op (.load M (Rect.unit (s := S512x4096) off S512x4096.size inb).toLoadRect hl) k) Q) := by
  subst h
  unfold owns
  iintro ⟨%f, %hf, H⟩ Hk
  have e : M.view.readAt (Elt F) (Rect.unit (fun _ => 0) S512x4096.size inb).toLoadRect f = X := by
    rw [← hf]; exact read_all f
  iapply (wp_load 𝒱₀ (c : Thread nD τ) none Set.univ (m := M) (hl := hl) (S := M.view.set) (M.view.setOn_subset_set _)) $$ H
  iintro H
  rw [e]
  iapply Hk
  iexists f
  isplitr
  · ipureintro; exact hf
  · iexact H

theorem store_out {M : Memref sig .tc .vmem S512x4096 .f32} {X : Vec F S512x4096 .f32} {off : Fin 2 → ℕ} {inb}
    {w : (Rect.unit (s := S512x4096) off S512x4096.size inb).shape.Idx → Elt F .f32} {h₁ h₂}
    {k : PUnit → Prog (TpuEff nD τ sig (Elt F) Λ₀ .tc) α} (h : off = fun _ => 0) :
    owns (c : Thread nD τ) M fullShare X
      ⊢ iprop((owns (c : Thread nD τ) M fullShare w -∗ wpk c (k ⟨⟩) Q)
          -∗ wpk c (.op (.store M (Rect.unit (s := S512x4096) off S512x4096.size inb) w Finset.univ h₁ h₂) k) Q) := by
  subst h
  unfold owns
  iintro ⟨%f, %hf, H⟩ Hk
  iapply (wp_store 𝒱₀ (c : Thread nD τ) none Set.univ (m := M) (r := Rect.unit (s := S512x4096) (fun _ => 0) S512x4096.size inb) (Mk := Finset.univ) (hx := h₁) (hm := h₂)
    (S := M.view.set) (View.set_slice_subset _ _)) $$ H
  iintro H
  iapply Hk
  iexists _
  isplitr
  · ipureintro
    exact (read_all _).symm.trans (View.read_write_univ (v := M.view.slice (Rect.unit (s := S512x4096) (fun _ => 0) S512x4096.size inb)) f w)
  · iexact H

end Steps

end Cert.KernelIdeal.Proof

end
-- ==== Proof.First.lean ====
/-
  The first step of the kernel, part by part: the first block of weights is sent for, the send buffer is filled, the
  device's own block goes to its gather slot, every device is signalled and all 16 signals awaited, and the first four
  blocks are sent.
-/
module

public import proofs.«01_k».proof.Proof.State

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ) (K : Dev nD × Kd → ℕ)

section Parts

variable {c : Dev nD} (i : grid0.Coords) (x : Memref sig .tc .vmem S8192x512 .f32) (hx : x.IsWhole)
  (o : Memref sig .tc .vmem S512x4096 .f32) (ho : o.IsWhole) (hi : (i 0).val = 0) (h1 : k0_cond1 i = 1#1)

include hi

/-- The first block of weights is sent for; slots 0 to 2 are filled, slot 3's contents computed. -/
theorem first_part1 (v13 : BitVec 32) {Q : FVec F S1x512x512 .bf16 → sProp (MT nD τ sig Unit (Elt F) ℕ UU ℕ)} :
    iprop(wHome m c 0 ∗ owns (c : Thread nD τ) x fullShare (xst m c) ∗ fillSt m c 0)
      ⊢ iprop((iprop(wFly m c 0 (behind c 0) ∗ owns (c : Thread nD τ) x fullShare (xst m c) ∗ fillSt m c 3) -∗ Q (sbV m c 3))
          -∗ wpk c (k0_part1 (F := F) i x hx waM (Memref.isWhole_whole _) o ho sbM (Memref.isWhole_whole _) cmM (Memref.isWhole_whole _)
              wbM (Memref.isWhole_whole _) cc0_scratch3 cc0_scratch4 cc0_scratch5 c v13 h1) Q) := by
  iintro ⟨Hw, Hx, Hf⟩ Hk
  simp only [k0_part1_eq_skeleton]; unfold k0_part1_skel
  simp only [Prog.lift, Prog.bind_op, Prog.bind_ret, Prog.pure_eq_ret]
  iapply (weights_start m 0 (behind c 0) (by rw [off1_eq i c hi, behind_zero]) rfl rfl) $$ Hw
  iintro Hw
  iapply (fill_step m 0 rfl rfl rfl 0 1 rfl rfl) $$ [Hx Hf]
  · isplitl [Hx] <;> iassumption
  iintro ⟨Hx, Hf⟩
  iapply (fill_step m 1 rfl rfl rfl 1 2 rfl rfl) $$ [Hx Hf]
  · isplitl [Hx] <;> iassumption
  iintro ⟨Hx, Hf⟩
  iapply (fill_step m 2 rfl rfl rfl 2 3 rfl rfl) $$ [Hx Hf]
  · isplitl [Hx] <;> iassumption
  iintro ⟨Hx, Hf⟩
  iapply (load_rows m 3 rfl) $$ Hx
  iintro Hx
  iapply (load_slot m 3 3 rfl) $$ Hf
  iintro %v Hf
  rw [show k0_pay6 (xRows m c 3) = sbV m c 3 from rfl]
  iapply wpk_ret
  iapply Hk
  isplitl [Hw]
  · iexact Hw
  isplitl [Hx] <;> iassumption

/-- Slots 3 to 7 are filled, slot 8's contents computed. -/
theorem first_part2 {v : FVec F S1x512x512 .bf16} (hv : v = sbV m c 3) {Q : FVec F S1x512x512 .bf16 → sProp (MT nD τ sig Unit (Elt F) ℕ UU ℕ)} :
    iprop(owns (c : Thread nD τ) x fullShare (xst m c) ∗ fillSt m c 3)
      ⊢ iprop((iprop(owns (c : Thread nD τ) x fullShare (xst m c) ∗ fillSt m c 8) -∗ Q (sbV m c 8))
          -∗ wpk c (k0_part2 (F := F) i x hx waM (Memref.isWhole_whole _) o ho sbM (Memref.isWhole_whole _) cmM (Memref.isWhole_whole _)
              wbM (Memref.isWhole_whole _) cc0_scratch3 cc0_scratch4 cc0_scratch5 v) Q) := by
  iintro ⟨Hx, Hf⟩ Hk
  simp only [k0_part2_eq_skeleton]; unfold k0_part2_skel
  simp only [Prog.lift, Prog.bind_op, Prog.bind_ret, Prog.pure_eq_ret]
  iapply (fill_slot m 3 rfl hv 3 4 rfl rfl) $$ Hf
  iintro Hf
  iapply (fill_step m 4 rfl rfl rfl 4 5 rfl rfl) $$ [Hx Hf]
  · isplitl [Hx] <;> iassumption
  iintro ⟨Hx, Hf⟩
  iapply (fill_step m 5 rfl rfl rfl 5 6 rfl rfl) $$ [Hx Hf]
  · isplitl [Hx] <;> iassumption
  iintro ⟨Hx, Hf⟩
  iapply (fill_step m 6 rfl rfl rfl 6 7 rfl rfl) $$ [Hx Hf]
  · isplitl [Hx] <;> iassumption
  iintro ⟨Hx, Hf⟩
  iapply (fill_step m 7 rfl rfl rfl 7 8 rfl rfl) $$ [Hx Hf]
  · isplitl [Hx] <;> iassumption
  iintro ⟨Hx, Hf⟩
  iapply (load_rows m 8 rfl) $$ Hx
  iintro Hx
  iapply (load_slot m 8 8 rfl) $$ Hf
  iintro %v' Hf
  rw [show k0_pay11 (xRows m c 8) = sbV m c 8 from rfl]
  iapply wpk_ret
  iapply Hk
  isplitl [Hx] <;> iassumption

/-- Slots 8 to 12 are filled, slot 13's contents computed. -/
theorem first_part3 {v : FVec F S1x512x512 .bf16} (hv : v = sbV m c 8) {Q : FVec F S1x512x512 .bf16 → sProp (MT nD τ sig Unit (Elt F) ℕ UU ℕ)} :
    iprop(owns (c : Thread nD τ) x fullShare (xst m c) ∗ fillSt m c 8)
      ⊢ iprop((iprop(owns (c : Thread nD τ) x fullShare (xst m c) ∗ fillSt m c 13) -∗ Q (sbV m c 13))
          -∗ wpk c (k0_part3 (F := F) i x hx waM (Memref.isWhole_whole _) o ho sbM (Memref.isWhole_whole _) cmM (Memref.isWhole_whole _)
              wbM (Memref.isWhole_whole _) cc0_scratch3 cc0_scratch4 cc0_scratch5 v) Q) := by
  iintro ⟨Hx, Hf⟩ Hk
  simp only [k0_part3_eq_skeleton]; unfold k0_part3_skel
  simp only [Prog.lift, Prog.bind_op, Prog.bind_ret, Prog.pure_eq_ret]
  iapply (fill_slot m 8 rfl hv 8 9 rfl rfl) $$ Hf
  iintro Hf
  iapply (fill_step m 9 rfl rfl rfl 9 10 rfl rfl) $$ [Hx Hf]
  · isplitl [Hx] <;> iassumption
  iintro ⟨Hx, Hf⟩
  iapply (fill_step m 10 rfl rfl rfl 10 11 rfl rfl) $$ [Hx Hf]
  · isplitl [Hx] <;> iassumption
  iintro ⟨Hx, Hf⟩
  iapply (fill_step m 11 rfl rfl rfl 11 12 rfl rfl) $$ [Hx Hf]
  · isplitl [Hx] <;> iassumption
  iintro ⟨Hx, Hf⟩
  iapply (fill_step m 12 rfl rfl rfl 12 13 rfl rfl) $$ [Hx Hf]
  · isplitl [Hx] <;> iassumption
  iintro ⟨Hx, Hf⟩
  iapply (load_rows m 13 rfl) $$ Hx
  iintro Hx
  iapply (load_slot m 13 13 rfl) $$ Hf
  iintro %v' Hf
  rw [show k0_pay16 (xRows m c 13) = sbV m c 13 from rfl]
  iapply wpk_ret
  iapply Hk
  isplitl [Hx] <;> iassumption

/-- The send buffer is full; the device's own block goes to its gather slot; the first three devices are signalled. -/
theorem first_part4 (v2 : BitVec 32) {v : FVec F S1x512x512 .bf16} (hv : v = sbV m c 13) {Q : Sems sig S_ → sProp (MT nD τ sig Unit (Elt F) ℕ UU ℕ)} :
    iprop(Recs m K ∗ owns (c : Thread nD τ) x fullShare (xst m c) ∗ fillSt m c 13 ∗ (∃ X, cmOwn (F := F) c c X)
        ∗ owing c (owedBar c 0 + owedSend c 0) ∗ signSt m c 0)
      ⊢ iprop((iprop(owns (c : Thread nD τ) x fullShare (xst m c) ∗ fillSt m c 16 ∗ cmOwn c c (sbV m c c)
              ∗ owing c (owedBar c 3 + owedSend c 0) ∗ signSt m c 3) -∗ Q (SemArray.scalar (sig.barrier 0 rfl)))
          -∗ wpk c (k0_part4 (F := F) i x hx waM (Memref.isWhole_whole _) o ho sbM (Memref.isWhole_whole _) cmM (Memref.isWhole_whole _)
              wbM (Memref.isWhole_whole _) cc0_scratch3 cc0_scratch4 cc0_scratch5 c v2 h1 v) Q) := by
  iintro ⟨#HR, Hx, Hf, ⟨%X, Hc⟩, HO, Hs⟩ Hk
  simp only [k0_part4_eq_skeleton]; unfold k0_part4_skel
  simp only [semSignalWord, Prog.lift, Prog.bind_op, Prog.bind_ret, Prog.pure_eq_ret]
  iapply (fill_slot m 13 rfl hv 13 14 rfl rfl) $$ Hf
  iintro Hf
  iapply (fill_step m 14 rfl rfl rfl 14 15 rfl rfl) $$ [Hx Hf]
  · isplitl [Hx] <;> iassumption
  iintro ⟨Hx, Hf⟩
  iapply (fill_step m 15 rfl rfl rfl 15 16 rfl rfl) $$ [Hx Hf]
  · isplitl [Hx] <;> iassumption
  iintro ⟨Hx, Hf⟩
  iapply (load_full m c (k0_off2_eq c)) $$ Hf
  iintro Hf
  iapply (load_piece (k0_off2_eq c)) $$ Hc
  iintro Hc
  iapply (store_piece (k0_off2_eq c)) $$ Hc
  iintro Hc
  iapply (sign_step m K 0 k0_dev1_eq rfl rfl 0 1 rfl rfl) $$ [HO Hs]
  · isplitr
    · iexact HR
    isplitl [HO] <;> iassumption
  iintro ⟨HO, Hs⟩
  iapply (sign_step m K 1 k0_dev2_eq rfl rfl 1 2 rfl rfl) $$ [HO Hs]
  · isplitr
    · iexact HR
    isplitl [HO] <;> iassumption
  iintro ⟨HO, Hs⟩
  iapply (sign_step m K 2 k0_dev3_eq rfl rfl 2 3 rfl rfl) $$ [HO Hs]
  · isplitr
    · iexact HR
    isplitl [HO] <;> iassumption
  iintro ⟨HO, Hs⟩
  iapply wpk_ret
  iapply Hk
  isplitl [Hx]
  · iexact Hx
  isplitl [Hf]
  · iexact Hf
  isplitl [Hc]
  · rw [pay19_id]; iexact Hc
  isplitl [HO] <;> iassumption

/-- The next eight devices are signalled. -/
theorem first_part5 {v : Sems sig S_} (hv : v = SemArray.scalar (sig.barrier 0 rfl)) {Q : (Σ' (v228 : BitVec 32), BitVec 32) → sProp (MT nD τ sig Unit (Elt F) ℕ UU ℕ)} :
    iprop(Recs m K ∗ owing c (owedBar c 3 + owedSend c 0) ∗ signSt m c 3)
      ⊢ iprop((∀ r, iprop(owing c (owedBar c 11 + owedSend c 0) ∗ signSt m c 11) -∗ Q r)
          -∗ wpk c (k0_part5 (F := F) i x hx waM (Memref.isWhole_whole _) o ho sbM (Memref.isWhole_whole _) cmM (Memref.isWhole_whole _)
              wbM (Memref.isWhole_whole _) cc0_scratch3 cc0_scratch4 cc0_scratch5 h1 v) Q) := by
  subst hv
  iintro ⟨#HR, HO, Hs⟩ Hk
  simp only [k0_part5_eq_skeleton]; unfold k0_part5_skel
  simp only [semSignalWord, Prog.lift, Prog.bind_op, Prog.bind_ret, Prog.pure_eq_ret]
  iapply (sign_step m K 3 k0_dev4_eq rfl rfl 3 4 rfl rfl) $$ [HO Hs]
  · isplitr
    · iexact HR
    isplitl [HO] <;> iassumption
  iintro ⟨HO, Hs⟩
  iapply (sign_step m K 4 k0_dev5_eq rfl rfl 4 5 rfl rfl) $$ [HO Hs]
  · isplitr
    · iexact HR
    isplitl [HO] <;> iassumption
  iintro ⟨HO, Hs⟩
  iapply (sign_step m K 5 k0_dev6_eq rfl rfl 5 6 rfl rfl) $$ [HO Hs]
  · isplitr
    · iexact HR
    isplitl [HO] <;> iassumption
  iintro ⟨HO, Hs⟩
  iapply (sign_step m K 6 k0_dev7_eq rfl rfl 6 7 rfl rfl) $$ [HO Hs]
  · isplitr
    · iexact HR
    isplitl [HO] <;> iassumption
  iintro ⟨HO, Hs⟩
  iapply (sign_step m K 7 k0_dev8_eq rfl rfl 7 8 rfl rfl) $$ [HO Hs]
  · isplitr
    · iexact HR
    isplitl [HO] <;> iassumption
  iintro ⟨HO, Hs⟩
  iapply (sign_step m K 8 k0_dev9_eq rfl rfl 8 9 rfl rfl) $$ [HO Hs]
  · isplitr
    · iexact HR
    isplitl [HO] <;> iassumption
  iintro ⟨HO, Hs⟩
  iapply (sign_step m K 9 k0_dev10_eq rfl rfl 9 10 rfl rfl) $$ [HO Hs]
  · isplitr
    · iexact HR
    isplitl [HO] <;> iassumption
  iintro ⟨HO, Hs⟩
  iapply (sign_step m K 10 k0_dev11_eq rfl rfl 10 11 rfl rfl) $$ [HO Hs]
  · isplitr
    · iexact HR
    isplitl [HO] <;> iassumption
  iintro ⟨HO, Hs⟩
  iapply wpk_ret
  iapply Hk
  isplitl [HO] <;> iassumption

/-- The last five devices are signalled and all 16 signals awaited: the sends and the receptions are ready. -/
theorem first_part6 (v2 : BitVec 32) {v : Sems sig S_} (hv : v = SemArray.scalar (sig.barrier 0 rfl)) (a b : BitVec 32) {Q : PUnit → sProp (MT nD τ sig Unit (Elt F) ℕ UU ℕ)} :
    iprop(Recs m K ∗ owing c (owedBar c 11 + owedSend c 0) ∗ signSt m c 11 ∗ cred (tallyAt (barCell c) () 16)
        ∗ atPos ER (barCell c) 0 ∅ 0 ∗ fillSt m c 16 ∗ sendTok (F := F) c)
      ⊢ iprop((iprop(owing c (owedSend c 0) ∗ atPos ER (barCell c) 1 ∅ 0 ∗ sendSt m c 0) -∗ Q ⟨⟩)
          -∗ wpk c (k0_part6 (F := F) i x hx waM (Memref.isWhole_whole _) o ho sbM (Memref.isWhole_whole _) cmM (Memref.isWhole_whole _)
              wbM (Memref.isWhole_whole _) cc0_scratch3 cc0_scratch4 cc0_scratch5 c v2 h1 v a b) Q) := by
  subst hv
  iintro ⟨#HR, HO, Hs, Hc, Ha, Hf, Ht⟩ Hk
  simp only [k0_part6_eq_skeleton]; unfold k0_part6_skel
  simp only [semSignalWord, semWaitWord, Prog.lift, Prog.bind_op, Prog.bind_ret, Prog.pure_eq_ret]
  iapply (sign_step m K 11 k0_dev12_eq rfl rfl 11 12 rfl rfl) $$ [HO Hs]
  · isplitr
    · iexact HR
    isplitl [HO] <;> iassumption
  iintro ⟨HO, Hs⟩
  iapply (sign_step m K 12 k0_dev13_eq rfl rfl 12 13 rfl rfl) $$ [HO Hs]
  · isplitr
    · iexact HR
    isplitl [HO] <;> iassumption
  iintro ⟨HO, Hs⟩
  iapply (sign_step m K 13 k0_dev14_eq rfl rfl 13 14 rfl rfl) $$ [HO Hs]
  · isplitr
    · iexact HR
    isplitl [HO] <;> iassumption
  iintro ⟨HO, Hs⟩
  iapply (sign_step m K 14 k0_dev15_eq rfl rfl 14 15 rfl rfl) $$ [HO Hs]
  · isplitr
    · iexact HR
    isplitl [HO] <;> iassumption
  iintro ⟨HO, Hs⟩
  iapply (sign_step m K 15 k0_dev16_eq rfl rfl 15 16 rfl rfl) $$ [HO Hs]
  · isplitr
    · iexact HR
    isplitl [HO] <;> iassumption
  iintro ⟨HO, Hs⟩
  rw [owedBar_end, zero_add]
  iapply (barrier_wait m K rfl rfl) $$ [HO Hc Ha]
  · isplitr
    · iexact HR
    isplitl [Hc]
    · iexact Hc
    isplitl [HO] <;> iassumption
  iintro ⟨HO, Ha, Hp⟩
  iapply wpk_ret
  iapply Hk
  isplitl [HO]
  · iexact HO
  isplitl [Ha]
  · iexact Ha
  iapply (send_ready m c)
  isplitl [Hf]
  · iexact Hf
  isplitl [Hp] <;> iassumption

/-- The first two blocks are sent. -/
theorem first_part7 (v2 : BitVec 32) {Q : (Σ' (v282 : BitVec 32) (v283 : BitVec 32) (v284 : BitVec 1), BitVec 1) → sProp (MT nD τ sig Unit (Elt F) ℕ UU ℕ)} :
    iprop(Recs m K ∗ owing c (owedSend c 0) ∗ sendSt m c 0)
      ⊢ iprop((∀ r, iprop(owing c (owedSend c 2) ∗ sendSt m c 2) -∗ Q r)
          -∗ wpk c (k0_part7 (F := F) i x hx waM (Memref.isWhole_whole _) o ho sbM (Memref.isWhole_whole _) cmM (Memref.isWhole_whole _)
              wbM (Memref.isWhole_whole _) cc0_scratch3 cc0_scratch4 cc0_scratch5 c v2 h1) Q) := by
  iintro ⟨#HR, HO, Hs⟩ Hk
  simp only [k0_part7_eq_skeleton]; unfold k0_part7_skel
  simp only [Prog.lift, Prog.bind_op, Prog.bind_ret, Prog.pure_eq_ret]
  iapply (send_step m K 1 0 1 rfl rfl (dev17_eq c) (off5_eq c 0) (k0_off4_eq c) rfl (k0_off3_eq c)) $$ [HO Hs]
  · isplitr
    · iexact HR
    isplitl [HO] <;> iassumption
  iintro ⟨HO, Hs⟩
  iapply (send_step m K 2 1 2 rfl rfl (dev18_eq c) (off5_eq c 1) (k0_off4_eq c) rfl (k0_off3_eq c)) $$ [HO Hs]
  · isplitr
    · iexact HR
    isplitl [HO] <;> iassumption
  iintro ⟨HO, Hs⟩
  iapply wpk_ret
  iapply Hk
  isplitl [HO] <;> iassumption

/-- The whole first part, the third block sent too. -/
theorem first_part8 (v2 v13 : BitVec 32) {Q : PUnit → sProp (MT nD τ sig Unit (Elt F) ℕ UU ℕ)} :
    iprop(Recs m K ∗ wHome m c 0 ∗ owns (c : Thread nD τ) x fullShare (xst m c) ∗ fillSt m c 0 ∗ (∃ X, cmOwn (F := F) c c X)
        ∗ owing c (O₀ c) ∗ signSt m c 0 ∗ cred (tallyAt (barCell c) () 16)
        ∗ atPos ER (barCell c) 0 ∅ 0 ∗ sendTok (F := F) c ∗ recvPre (F := F) c)
      ⊢ iprop((iprop(wFly m c 0 (behind c 0) ∗ owns (c : Thread nD τ) x fullShare (xst m c) ∗ recvSt m c 0 ∗ owing c (owedSend c 3)
              ∗ atPos ER (barCell c) 1 ∅ 0 ∗ sendSt m c 3) -∗ Q ⟨⟩)
          -∗ wpk c (k0_part8 (F := F) i x hx waM (Memref.isWhole_whole _) o ho sbM (Memref.isWhole_whole _) cmM (Memref.isWhole_whole _)
              wbM (Memref.isWhole_whole _) cc0_scratch3 cc0_scratch4 cc0_scratch5 c v2 v13 h1) Q) := by
  iintro ⟨#HR, Hw, Hx, Hf, Hc, HO, Hs, Hcr, Ha, Ht, Hr⟩ Hk
  simp only [k0_part8_eq_skeleton]; unfold k0_part8_skel
  iapply wpk_bind
  iapply (first_part1 m i x hx o ho hi h1 v13) $$ [Hw Hx Hf]
  · isplitl [Hw]
    · iexact Hw
    isplitl [Hx] <;> iassumption
  iintro ⟨Hw, Hx, Hf⟩
  iapply wpk_bind
  iapply (first_part2 m i x hx o ho hi rfl) $$ [Hx Hf]
  · isplitl [Hx] <;> iassumption
  iintro ⟨Hx, Hf⟩
  iapply wpk_bind
  iapply (first_part3 m i x hx o ho hi rfl) $$ [Hx Hf]
  · isplitl [Hx] <;> iassumption
  iintro ⟨Hx, Hf⟩
  iapply wpk_bind
  iapply (first_part4 m K i x hx o ho hi h1 v2 rfl) $$ [Hx Hf Hc HO Hs]
  · isplitr
    · iexact HR
    isplitl [Hx]
    · iexact Hx
    isplitl [Hf]
    · iexact Hf
    isplitl [Hc]
    · iexact Hc
    isplitl [HO]
    · iexact HO
    · iexact Hs
  iintro ⟨Hx, Hf, Hc, HO, Hs⟩
  iapply wpk_bind
  iapply (first_part5 m K i x hx o ho hi h1 rfl) $$ [HO Hs]
  · isplitr
    · iexact HR
    isplitl [HO] <;> iassumption
  iintro %r ⟨HO, Hs⟩
  iapply wpk_bind
  iapply (first_part6 m K i x hx o ho hi h1 v2 rfl _ _) $$ [HO Hs Hcr Ha Hf Ht]
  · isplitr
    · iexact HR
    isplitl [HO]
    · iexact HO
    isplitl [Hs]
    · iexact Hs
    isplitl [Hcr]
    · iexact Hcr
    isplitl [Ha]
    · iexact Ha
    isplitl [Hf] <;> iassumption
  iintro ⟨HO, Ha, Hs⟩
  iapply wpk_bind
  iapply (first_part7 m K i x hx o ho hi h1 v2) $$ [HO Hs]
  · isplitr
    · iexact HR
    isplitl [HO] <;> iassumption
  iintro %r' ⟨HO, Hs⟩
  simp only [Prog.lift, Prog.bind_op, Prog.bind_ret, Prog.pure_eq_ret]
  iapply (send_step m K 3 2 3 rfl rfl (dev19_eq c) (off5_eq c 2) (k0_off4_eq c) rfl (k0_off3_eq c)) $$ [HO Hs]
  · isplitr
    · iexact HR
    isplitl [HO] <;> iassumption
  iintro ⟨HO, Hs⟩
  iapply wpk_ret
  iapply Hk
  isplitl [Hw]
  · iexact Hw
  isplitl [Hx]
  · iexact Hx
  isplitl [Hc Hr]
  · iapply (recv_ready m c)
    isplitl [Hc] <;> iassumption
  isplitl [HO]
  · iexact HO
  isplitl [Ha] <;> iassumption

end Parts

end Cert.KernelIdeal.Proof

end
-- ==== Proof.Step.lean ====
/-
  One step of the kernel, for every step: first what is sent, then what is received and the weights, then the product
  and its sum, and at the last step the final value and the departures of the sends.
-/
module

public import proofs.«01_k».proof.Proof.First

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ) (K : Dev nD × Kd → ℕ)

section Parts

variable {c : Dev nD} (i : grid0.Coords) (x : Memref sig .tc .vmem S8192x512 .f32) (hx : x.IsWhole)
  (o : Memref sig .tc .vmem S512x4096 .f32) (ho : o.IsWhole)

/-- The whole buffer's offset is zero on both axes. -/
theorem zero_off : (![0, 0] : Fin 2 → ℕ) = fun _ => 0 := by funext a; fin_cases a <;> rfl

/-! ## What is sent -/

/-- At the first step: everything of the first part, and the fourth block sent. -/
theorem step_sends_first (hi : (i 0).val = 0) {Q : (Σ' (arg0 : BitVec 32) (d0 : Dev nD) (v2 : BitVec 32) (v13 : BitVec 32), BitVec 32) → sProp (MT nD τ sig Unit (Elt F) ℕ UU ℕ)} :
    iprop(Recs m K ∗ wHome m c 0 ∗ owns (c : Thread nD τ) x fullShare (xst m c) ∗ fillSt m c 0 ∗ (∃ X, cmOwn (F := F) c c X)
        ∗ owing c (O₀ c) ∗ signSt m c 0 ∗ cred (tallyAt (barCell c) () 16)
        ∗ atPos ER (barCell c) 0 ∅ 0 ∗ sendTok (F := F) c ∗ recvPre (F := F) c)
      ⊢ iprop((∀ a v2 v13 v25, iprop(wFly m c 0 (behind c 0) ∗ owns (c : Thread nD τ) x fullShare (xst m c) ∗ recvSt m c 0 ∗ owing c (owedSend c 4)
              ∗ atPos ER (barCell c) 1 ∅ 0 ∗ sendSt m c 4) -∗ Q ⟨a, c, v2, v13, v25⟩)
          -∗ wpk c (k0_part17 (F := F) i x hx waM (Memref.isWhole_whole _) o ho sbM (Memref.isWhole_whole _) cmM (Memref.isWhole_whole _)
              wbM (Memref.isWhole_whole _) cc0_scratch3 cc0_scratch4 cc0_scratch5) Q) := by
  have h1 : k0_cond1 i = 1#1 := (cond1_iff i).mpr hi
  have h2 : ¬ k0_cond2 i = 1#1 := fun h => by have := (cond2_iff i).mp h; omega
  iintro ⟨#HR, Hw, Hx, Hf, Hc, HO, Hs, Hcr, Ha, Ht, Hr⟩ Hk
  simp only [k0_part17_eq_skeleton]; unfold k0_part17_skel
  simp only [dif_pos h1, dif_neg h2, Prog.lift, Prog.bind_op, Prog.bind_ret, Prog.pure_eq_ret]
  iapply wpk_device
  iapply wpk_bind
  iapply (first_part8 m K i x hx o ho hi h1 _ _) $$ [Hw Hx Hf Hc HO Hs Hcr Ha Ht Hr]
  · isplitr
    · iexact HR
    isplitl [Hw]
    · iexact Hw
    isplitl [Hx]
    · iexact Hx
    isplitl [Hf]
    · iexact Hf
    isplitl [Hc]
    · iexact Hc
    isplitl [HO]
    · iexact HO
    isplitl [Hs]
    · iexact Hs
    isplitl [Hcr]
    · iexact Hcr
    isplitl [Ha]
    · iexact Ha
    isplitl [Ht] <;> iassumption
  iintro ⟨Hw, Hx, Hr, HO, Ha, Hs⟩
  iapply (send_step m K 4 3 4 rfl rfl (dev20_eq c) (off5_eq c 3) (k0_off4_eq c) rfl (k0_off3_eq c)) $$ [HO Hs]
  · isplitr
    · iexact HR
    isplitl [HO] <;> iassumption
  iintro ⟨HO, Hs⟩
  iapply wpk_ret
  iapply Hk
  isplitl [Hw]
  · iexact Hw
  isplitl [Hx]
  · iexact Hx
  isplitl [Hr]
  · iexact Hr
  isplitl [HO]
  · iexact HO
  isplitl [Ha] <;> iassumption

/-- At a later step that still sends: the block of the device four further than the step's number. -/
theorem step_sends_mid (hi : 0 < (i 0).val ∧ (i 0).val < 12) {Q : (Σ' (arg0 : BitVec 32) (d0 : Dev nD) (v2 : BitVec 32) (v13 : BitVec 32), BitVec 32) → sProp (MT nD τ sig Unit (Elt F) ℕ UU ℕ)} :
    iprop(Recs m K ∗ owing c (owedSend c ((i 0).val + 3)) ∗ sendSt m c ((i 0).val + 3))
      ⊢ iprop((∀ a v2 v13 v25, iprop(owing c (owedSend c ((i 0).val + 4)) ∗ sendSt m c ((i 0).val + 4)) -∗ Q ⟨a, c, v2, v13, v25⟩)
          -∗ wpk c (k0_part17 (F := F) i x hx waM (Memref.isWhole_whole _) o ho sbM (Memref.isWhole_whole _) cmM (Memref.isWhole_whole _)
              wbM (Memref.isWhole_whole _) cc0_scratch3 cc0_scratch4 cc0_scratch5) Q) := by
  have h1 : ¬ k0_cond1 i = 1#1 := fun h => by have := (cond1_iff i).mp h; omega
  have h2 : k0_cond2 i = 1#1 := (cond2_iff i).mpr hi
  iintro ⟨#HR, HO, Hs⟩ Hk
  simp only [k0_part17_eq_skeleton]; unfold k0_part17_skel
  simp only [dif_neg h1, dif_pos h2, Prog.lift, Prog.bind_op, Prog.bind_ret, Prog.pure_eq_ret]
  iapply wpk_device
  iapply (send_step m K (⟨(i 0).val + 4, by omega⟩ : Fin 16) ((i 0).val + 3) ((i 0).val + 4) rfl rfl (dev21_eq i c hi) (off9_eq i c hi)
    (k0_off8_eq c) (k0_off6_eq i) (k0_off7_eq c)) $$ [HO Hs]
  · isplitr
    · iexact HR
    isplitl [HO] <;> iassumption
  iintro ⟨HO, Hs⟩
  iapply wpk_ret
  iapply Hk
  isplitl [HO] <;> iassumption

/-- At the last steps nothing more is sent. -/
theorem step_sends_late (hi : 12 ≤ (i 0).val) {R : sProp (MT nD τ sig Unit (Elt F) ℕ UU ℕ)} {Q : (Σ' (arg0 : BitVec 32) (d0 : Dev nD) (v2 : BitVec 32) (v13 : BitVec 32), BitVec 32) → sProp (MT nD τ sig Unit (Elt F) ℕ UU ℕ)} :
    R
      ⊢ iprop((∀ a v2 v13 v25, R -∗ Q ⟨a, c, v2, v13, v25⟩)
          -∗ wpk c (k0_part17 (F := F) i x hx waM (Memref.isWhole_whole _) o ho sbM (Memref.isWhole_whole _) cmM (Memref.isWhole_whole _)
              wbM (Memref.isWhole_whole _) cc0_scratch3 cc0_scratch4 cc0_scratch5) Q) := by
  have h1 : ¬ k0_cond1 i = 1#1 := fun h => by have := (cond1_iff i).mp h; omega
  have h2 : ¬ k0_cond2 i = 1#1 := fun h => by have := (cond2_iff i).mp h; omega
  iintro HR Hk
  simp only [k0_part17_eq_skeleton]; unfold k0_part17_skel
  simp only [dif_neg h1, dif_neg h2, Prog.lift, Prog.bind_op, Prog.bind_ret, Prog.pure_eq_ret]
  iapply wpk_device
  iapply wpk_ret
  iapply Hk
  iexact HR

/-! ## What arrives -/

/-- The slot of the weights' buffer used at step `t`. -/
def par (t : ℕ) : Fin 2 := ⟨t % 2, Nat.mod_lt _ (by decide)⟩

/-- Slot `b` of the weights' buffer once block `s` is in it. -/
def wIn (c : Dev nD) (b : Fin 2) (s : Fin 16) : sProp 𝕄 :=
  iprop(wbOwn c b (wbV m c s) ∗ semVal ((c : Thread nD τ), SemLoc.dma (wS b)) 0 ∗ waHalf m c b)

/-- A slot whose block has been used is free again. -/
theorem wIn_home (b : Fin 2) (s : Fin 16) : wIn m c b s ⊢ wHome m c b := by
  unfold wIn wHome
  iintro ⟨Hw, Hv, Ha⟩
  isplitl [Hw]
  · iexists _
    iexact Hw
  isplitl [Hv] <;> iassumption

/-- At the first step: the second block of weights is sent for, the first is awaited, and the own block read. -/
theorem step_receives_first (n : ℕ) (hi : (i 0).val = 0) (hn : (i 0).val ≤ n) {a v13 v25 : BitVec 32}
    {Q : FVec F S512x512 .bf16 → sProp (MT nD τ sig Unit (Elt F) ℕ UU ℕ)} :
    iprop(Recs m K ∗ owing c (owedSend c n) ∗ recvSt m c (i 0).val ∗ wHome m c (par ((i 0).val + 1)) ∗ wFly m c (par (i 0).val) (behind c (i 0).val))
      ⊢ iprop((iprop(owing c (owedSend c n) ∗ recvSt m c (i 0).val ∗ wFly m c (par ((i 0).val + 1)) (behind c ((i 0).val + 1)) ∗ wIn m c (par (i 0).val) (behind c (i 0).val))
              -∗ Q (k0_pay21 (sbV m (behind c (i 0).val) c)))
          -∗ wpk c (k0_part18 (F := F) i x hx waM (Memref.isWhole_whole _) o ho sbM (Memref.isWhole_whole _) cmM (Memref.isWhole_whole _)
              wbM (Memref.isWhole_whole _) cc0_scratch3 cc0_scratch4 cc0_scratch5 a c v13 v25) Q) := by
  have h3 : k0_cond3 i = 1#1 := (cond3_iff i).mpr (by omega)
  have h4 : ¬ k0_cond4 i = 1#1 := fun h => (cond4_iff i).mp h hi
  iintro ⟨#HR, HO, Hr, Hh, Hf⟩ Hk
  simp only [k0_part18_eq_skeleton]; unfold k0_part18_skel
  simp only [dif_pos h3, dif_neg h4, Prog.lift, Prog.bind_op, Prog.bind_ret, Prog.pure_eq_ret]
  iapply (weights_start m (par ((i 0).val + 1)) (behind c ((i 0).val + 1)) (off12_eq i c) (off11_eq i) (off10_eq i)) $$ Hh
  iintro Hn
  ihave #HL := (Recs_lev m K) $$ HR
  ihave HM := (mayWait_send (F := F) c n (.dma (wS (par (i 0).val))) (by rw [lv_w]; omega)) $$ HL
  iapply (weights_wait m (par (i 0).val) (behind c (i 0).val) (off17_eq i c) (off16_eq i) (off15_eq i)) $$ [Hf HO HM]
  · isplitl [Hf]
    · iexact Hf
    isplitl [HO] <;> iassumption
  iintro ⟨Hw, Hv, Ha, HO⟩
  iapply (load_block m (⟨(i 0).val, (i 0).isLt⟩ : Fin 16) (i 0).val le_rfl (off18_eq i c)) $$ Hr
  iintro Hr
  iapply wpk_ret
  iapply Hk
  isplitl [HO]
  · iexact HO
  isplitl [Hr]
  · iexact Hr
  isplitl [Hn]
  · iexact Hn
  unfold wIn
  isplitl [Hw]
  · iexact Hw
  isplitl [Hv] <;> iassumption

/-- At a later step: the next block of weights is sent for, this step's rows are awaited, then its weights, and the
    rows are read. -/
theorem step_receives_mid (r n : ℕ) (hr : (i 0).val = r + 1) (hi : (i 0).val < 15) (hn : (i 0).val ≤ n) {a v13 v25 : BitVec 32}
    {Q : FVec F S512x512 .bf16 → sProp (MT nD τ sig Unit (Elt F) ℕ UU ℕ)} :
    iprop(Recs m K ∗ owing c (owedSend c n) ∗ recvSt m c r ∗ wHome m c (par ((i 0).val + 1)) ∗ wFly m c (par (i 0).val) (behind c (i 0).val))
      ⊢ iprop((iprop(owing c (owedSend c n) ∗ recvSt m c (i 0).val ∗ wFly m c (par ((i 0).val + 1)) (behind c ((i 0).val + 1)) ∗ wIn m c (par (i 0).val) (behind c (i 0).val))
              -∗ Q (k0_pay21 (sbV m (behind c (i 0).val) c)))
          -∗ wpk c (k0_part18 (F := F) i x hx waM (Memref.isWhole_whole _) o ho sbM (Memref.isWhole_whole _) cmM (Memref.isWhole_whole _)
              wbM (Memref.isWhole_whole _) cc0_scratch3 cc0_scratch4 cc0_scratch5 a c v13 v25) Q) := by
  have h3 : k0_cond3 i = 1#1 := (cond3_iff i).mpr (by omega)
  have h4 : k0_cond4 i = 1#1 := (cond4_iff i).mpr (by omega)
  iintro ⟨#HR, HO, Hr, Hh, Hf⟩ Hk
  simp only [k0_part18_eq_skeleton]; unfold k0_part18_skel
  simp only [dif_pos h3, dif_pos h4, Prog.lift, Prog.bind_op, Prog.bind_ret, Prog.pure_eq_ret]
  iapply (weights_start m (par ((i 0).val + 1)) (behind c ((i 0).val + 1)) (off12_eq i c) (off11_eq i) (off10_eq i)) $$ Hh
  iintro Hn
  iapply (recv_step m K (⟨(i 0).val, (i 0).isLt⟩ : Fin 16) r (i 0).val n hr hr.symm hn (off13_eq i c)) $$ [HO Hr]
  · isplitr
    · iexact HR
    isplitl [HO] <;> iassumption
  iintro ⟨HO, Hr⟩
  ihave #HL := (Recs_lev m K) $$ HR
  ihave HM := (mayWait_send (F := F) c n (.dma (wS (par (i 0).val))) (by rw [lv_w]; omega)) $$ HL
  iapply (weights_wait m (par (i 0).val) (behind c (i 0).val) (off17_eq i c) (off16_eq i) (off15_eq i)) $$ [Hf HO HM]
  · isplitl [Hf]
    · iexact Hf
    isplitl [HO] <;> iassumption
  iintro ⟨Hw, Hv, Ha, HO⟩
  iapply (load_block m (⟨(i 0).val, (i 0).isLt⟩ : Fin 16) (i 0).val le_rfl (off18_eq i c)) $$ Hr
  iintro Hr
  iapply wpk_ret
  iapply Hk
  isplitl [HO]
  · iexact HO
  isplitl [Hr]
  · iexact Hr
  isplitl [Hn]
  · iexact Hn
  unfold wIn
  isplitl [Hw]
  · iexact Hw
  isplitl [Hv] <;> iassumption

/-- At the last step: the rows are awaited, then the weights, and the rows are read. -/
theorem step_receives_last (r n : ℕ) (hr : (i 0).val = r + 1) (hi : (i 0).val = 15) (hn : (i 0).val ≤ n) {a v13 v25 : BitVec 32}
    {Q : FVec F S512x512 .bf16 → sProp (MT nD τ sig Unit (Elt F) ℕ UU ℕ)} :
    iprop(Recs m K ∗ owing c (owedSend c n) ∗ recvSt m c r ∗ wFly m c (par (i 0).val) (behind c (i 0).val))
      ⊢ iprop((iprop(owing c (owedSend c n) ∗ recvSt m c (i 0).val ∗ wIn m c (par (i 0).val) (behind c (i 0).val))
              -∗ Q (k0_pay21 (sbV m (behind c (i 0).val) c)))
          -∗ wpk c (k0_part18 (F := F) i x hx waM (Memref.isWhole_whole _) o ho sbM (Memref.isWhole_whole _) cmM (Memref.isWhole_whole _)
              wbM (Memref.isWhole_whole _) cc0_scratch3 cc0_scratch4 cc0_scratch5 a c v13 v25) Q) := by
  have h3 : ¬ k0_cond3 i = 1#1 := fun h => by have := (cond3_iff i).mp h; omega
  have h4 : k0_cond4 i = 1#1 := (cond4_iff i).mpr (by omega)
  iintro ⟨#HR, HO, Hr, Hf⟩ Hk
  simp only [k0_part18_eq_skeleton]; unfold k0_part18_skel
  simp only [dif_neg h3, dif_pos h4, Prog.lift, Prog.bind_op, Prog.bind_ret, Prog.pure_eq_ret]
  iapply (recv_step m K (⟨(i 0).val, (i 0).isLt⟩ : Fin 16) r (i 0).val n hr hr.symm hn (off13_eq i c)) $$ [HO Hr]
  · isplitr
    · iexact HR
    isplitl [HO] <;> iassumption
  iintro ⟨HO, Hr⟩
  ihave #HL := (Recs_lev m K) $$ HR
  ihave HM := (mayWait_send (F := F) c n (.dma (wS (par (i 0).val))) (by rw [lv_w]; omega)) $$ HL
  iapply (weights_wait m (par (i 0).val) (behind c (i 0).val) (off17_eq i c) (off16_eq i) (off15_eq i)) $$ [Hf HO HM]
  · isplitl [Hf]
    · iexact Hf
    isplitl [HO] <;> iassumption
  iintro ⟨Hw, Hv, Ha, HO⟩
  iapply (load_block m (⟨(i 0).val, (i 0).isLt⟩ : Fin 16) (i 0).val le_rfl (off18_eq i c)) $$ Hr
  iintro Hr
  iapply wpk_ret
  iapply Hk
  isplitl [HO]
  · iexact HO
  isplitl [Hr]
  · iexact Hr
  unfold wIn
  isplitl [Hw]
  · iexact Hw
  isplitl [Hv] <;> iassumption

/-! ## The departures of the sends -/

/-- Two departures awaited one after the other. -/
theorem done_two {α : Type} {Q : α → sProp (MT nD τ sig Unit (Elt F) ℕ UU ℕ)} (k k' : Fin 16) (n n' : ℕ) (hk : k.val = n + 1) (hk' : k'.val = n + 2) (hn' : n + 2 = n')
    {offs offs' : Fin 1 → ℕ} {offS offD offS' offD' : Fin 3 → ℕ} {inbs inbS inbD inbs' inbS' inbD'}
    {h₁ h₂} {h₁' h₂'} {kk : PUnit → Prog (TpuEff nD τ sig (Elt F) Λ₀ .tc) α} (hs : offs = ![k.val]) (hs' : offs' = ![k'.val]) :
    iprop(Recs m K ∗ owing c (0 : CellTallies nD τ sig Unit) ∗ doneSt m c n)
      ⊢ iprop((iprop(owing c (0 : CellTallies nD τ sig Unit) ∗ doneSt m c n') -∗ wpk c (kk ⟨⟩) Q)
          -∗ wpk c (.op (.waitDma2 ((cc0_scratch3.slice (Rect.unit (s := S16) offs S1.size inbs)).squeeze S_ squeezes_S1_S_).sem
              ((cmM.slice (Rect.unit (s := S16x512x512) offD S1x512x512.size inbD) (fun _ => rfl)).squeeze S512x512 squeezes_S1x512x512_S512x512)
              ((sbM.slice (Rect.unit (s := S16x512x512) offS S1x512x512.size inbS) (fun _ => rfl)).squeeze S512x512 squeezes_S1x512x512_S512x512) h₁ h₂) fun _ => (.op (.waitDma2 ((cc0_scratch3.slice (Rect.unit (s := S16) offs' S1.size inbs')).squeeze S_ squeezes_S1_S_).sem
              ((cmM.slice (Rect.unit (s := S16x512x512) offD' S1x512x512.size inbD') (fun _ => rfl)).squeeze S512x512 squeezes_S1x512x512_S512x512)
              ((sbM.slice (Rect.unit (s := S16x512x512) offS' S1x512x512.size inbS') (fun _ => rfl)).squeeze S512x512 squeezes_S1x512x512_S512x512) h₁' h₂') kk)) Q) := by
  iintro ⟨#HR, HO, H⟩ Hk
  iapply (done_step m K k n (n + 1) hk rfl hs) $$ [HO H]
  · isplitr
    · iexact HR
    isplitl [HO] <;> iassumption
  iintro ⟨HO, H⟩
  iapply (done_step m K k' (n + 1) n' hk' hn' hs') $$ [HO H]
  · isplitr
    · iexact HR
    isplitl [HO] <;> iassumption
  iexact Hk

variable (h7 : k0_cond7 i = 1#1)

/-- The final value written, and the first departure. -/
theorem last_part9 {v2 : BitVec 32} {v84 : FVec F S512x4096 .f32} {X : Vec F S512x4096 .f32} {Q : (Σ' (v130 : BitVec 32), BitVec 32) → sProp (MT nD τ sig Unit (Elt F) ℕ UU ℕ)} :
    iprop(Recs m K ∗ owns (c : Thread nD τ) o fullShare X ∗ owing c (0 : CellTallies nD τ sig Unit) ∗ doneSt m c 0)
      ⊢ iprop((∀ r, iprop(owns (c : Thread nD τ) o fullShare (k0_pay20 v84 X) ∗ owing c (0 : CellTallies nD τ sig Unit) ∗ doneSt m c 1) -∗ Q r)
          -∗ wpk c (k0_part9 (F := F) i x hx waM (Memref.isWhole_whole _) o ho sbM (Memref.isWhole_whole _) cmM (Memref.isWhole_whole _)
              wbM (Memref.isWhole_whole _) cc0_scratch3 cc0_scratch4 cc0_scratch5 c v2 v84 h7) Q) := by
  iintro ⟨#HR, Ho, HO, H⟩ Hk
  simp only [k0_part9_eq_skeleton]; unfold k0_part9_skel
  simp only [Prog.lift, Prog.bind_op, Prog.bind_ret, Prog.pure_eq_ret]
  iapply (load_out zero_off) $$ Ho
  iintro Ho
  iapply (load_out zero_off) $$ Ho
  iintro Ho
  iapply (store_out zero_off) $$ Ho
  iintro Ho
  iapply (done_step m K 1 0 1 rfl rfl rfl) $$ [HO H]
  · isplitr
    · iexact HR
    isplitl [HO] <;> iassumption
  iintro ⟨HO, H⟩
  iapply wpk_ret
  iapply Hk
  isplitl [Ho]
  · iexact Ho
  isplitl [HO] <;> iassumption

/-- Departures 2 and 3. -/
theorem last_part10 {v2 v130 c16 : BitVec 32} {Q : BitVec 32 → sProp (MT nD τ sig Unit (Elt F) ℕ UU ℕ)} :
    iprop(Recs m K ∗ owing c (0 : CellTallies nD τ sig Unit) ∗ doneSt m c 1)
      ⊢ iprop((∀ r, iprop(owing c (0 : CellTallies nD τ sig Unit) ∗ doneSt m c 3) -∗ Q r)
          -∗ wpk c (k0_part10 (F := F) i x hx waM (Memref.isWhole_whole _) o ho sbM (Memref.isWhole_whole _) cmM (Memref.isWhole_whole _)
              wbM (Memref.isWhole_whole _) cc0_scratch3 cc0_scratch4 cc0_scratch5 c v2 h7 v130 c16) Q) := by
  iintro H Hk
  simp only [k0_part10_eq_skeleton]; unfold k0_part10_skel
  simp only [Prog.lift, Prog.bind_op, Prog.bind_ret, Prog.pure_eq_ret]
  iapply (done_two m K 2 3 1 3 rfl rfl rfl rfl rfl) $$ H
  iintro H
  iapply wpk_ret
  iapply Hk
  iexact H

/-- Departure 4. -/
theorem last_part11 {v2 c4 : BitVec 32} {Q : PUnit → sProp (MT nD τ sig Unit (Elt F) ℕ UU ℕ)} :
    iprop(Recs m K ∗ owing c (0 : CellTallies nD τ sig Unit) ∗ doneSt m c 3)
      ⊢ iprop((∀ r, iprop(owing c (0 : CellTallies nD τ sig Unit) ∗ doneSt m c 4) -∗ Q r)
          -∗ wpk c (k0_part11 (F := F) i x hx waM (Memref.isWhole_whole _) o ho sbM (Memref.isWhole_whole _) cmM (Memref.isWhole_whole _)
              wbM (Memref.isWhole_whole _) cc0_scratch3 cc0_scratch4 cc0_scratch5 c v2 h7 c4) Q) := by
  iintro H Hk
  simp only [k0_part11_eq_skeleton]; unfold k0_part11_skel
  simp only [Prog.lift, Prog.bind_op, Prog.bind_ret, Prog.pure_eq_ret]
  iapply (done_step m K 4 3 4 rfl rfl rfl) $$ H
  iintro H
  iapply wpk_ret
  iapply Hk
  iexact H

/-- Departures 5 and 6. -/
theorem last_part12 {v2 : BitVec 32} {Q : PUnit → sProp (MT nD τ sig Unit (Elt F) ℕ UU ℕ)} :
    iprop(Recs m K ∗ owing c (0 : CellTallies nD τ sig Unit) ∗ doneSt m c 4)
      ⊢ iprop((∀ r, iprop(owing c (0 : CellTallies nD τ sig Unit) ∗ doneSt m c 6) -∗ Q r)
          -∗ wpk c (k0_part12 (F := F) i x hx waM (Memref.isWhole_whole _) o ho sbM (Memref.isWhole_whole _) cmM (Memref.isWhole_whole _)
              wbM (Memref.isWhole_whole _) cc0_scratch3 cc0_scratch4 cc0_scratch5 c v2 h7) Q) := by
  iintro H Hk
  simp only [k0_part12_eq_skeleton]; unfold k0_part12_skel
  simp only [Prog.lift, Prog.bind_op, Prog.bind_ret, Prog.pure_eq_ret]
  iapply (done_two m K 5 6 4 6 rfl rfl rfl rfl rfl) $$ H
  iintro H
  iapply wpk_ret
  iapply Hk
  iexact H

/-- Departures 7 and 8. -/
theorem last_part13 {v2 : BitVec 32} {Q : PUnit → sProp (MT nD τ sig Unit (Elt F) ℕ UU ℕ)} :
    iprop(Recs m K ∗ owing c (0 : CellTallies nD τ sig Unit) ∗ doneSt m c 6)
      ⊢ iprop((∀ r, iprop(owing c (0 : CellTallies nD τ sig Unit) ∗ doneSt m c 8) -∗ Q r)
          -∗ wpk c (k0_part13 (F := F) i x hx waM (Memref.isWhole_whole _) o ho sbM (Memref.isWhole_whole _) cmM (Memref.isWhole_whole _)
              wbM (Memref.isWhole_whole _) cc0_scratch3 cc0_scratch4 cc0_scratch5 c v2 h7) Q) := by
  iintro H Hk
  simp only [k0_part13_eq_skeleton]; unfold k0_part13_skel
  simp only [Prog.lift, Prog.bind_op, Prog.bind_ret, Prog.pure_eq_ret]
  iapply (done_two m K 7 8 6 8 rfl rfl rfl rfl rfl) $$ H
  iintro H
  iapply wpk_ret
  iapply Hk
  iexact H

/-- Departures 9 and 10. -/
theorem last_part14 {v2 : BitVec 32} {Q : PUnit → sProp (MT nD τ sig Unit (Elt F) ℕ UU ℕ)} :
    iprop(Recs m K ∗ owing c (0 : CellTallies nD τ sig Unit) ∗ doneSt m c 8)
      ⊢ iprop((∀ r, iprop(owing c (0 : CellTallies nD τ sig Unit) ∗ doneSt m c 10) -∗ Q r)
          -∗ wpk c (k0_part14 (F := F) i x hx waM (Memref.isWhole_whole _) o ho sbM (Memref.isWhole_whole _) cmM (Memref.isWhole_whole _)
              wbM (Memref.isWhole_whole _) cc0_scratch3 cc0_scratch4 cc0_scratch5 c v2 h7) Q) := by
  iintro H Hk
  simp only [k0_part14_eq_skeleton]; unfold k0_part14_skel
  simp only [Prog.lift, Prog.bind_op, Prog.bind_ret, Prog.pure_eq_ret]
  iapply (done_two m K 9 10 8 10 rfl rfl rfl rfl rfl) $$ H
  iintro H
  iapply wpk_ret
  iapply Hk
  iexact H

/-- Departures 11 and 12. -/
theorem last_part15 {v2 : BitVec 32} {Q : PUnit → sProp (MT nD τ sig Unit (Elt F) ℕ UU ℕ)} :
    iprop(Recs m K ∗ owing c (0 : CellTallies nD τ sig Unit) ∗ doneSt m c 10)
      ⊢ iprop((∀ r, iprop(owing c (0 : CellTallies nD τ sig Unit) ∗ doneSt m c 12) -∗ Q r)
          -∗ wpk c (k0_part15 (F := F) i x hx waM (Memref.isWhole_whole _) o ho sbM (Memref.isWhole_whole _) cmM (Memref.isWhole_whole _)
              wbM (Memref.isWhole_whole _) cc0_scratch3 cc0_scratch4 cc0_scratch5 c v2 h7) Q) := by
  iintro H Hk
  simp only [k0_part15_eq_skeleton]; unfold k0_part15_skel
  simp only [Prog.lift, Prog.bind_op, Prog.bind_ret, Prog.pure_eq_ret]
  iapply (done_two m K 11 12 10 12 rfl rfl rfl rfl rfl) $$ H
  iintro H
  iapply wpk_ret
  iapply Hk
  iexact H

/-- Departures 13 and 14. -/
theorem last_part16 {v2 : BitVec 32} {Q : PUnit → sProp (MT nD τ sig Unit (Elt F) ℕ UU ℕ)} :
    iprop(Recs m K ∗ owing c (0 : CellTallies nD τ sig Unit) ∗ doneSt m c 12)
      ⊢ iprop((∀ r, iprop(owing c (0 : CellTallies nD τ sig Unit) ∗ doneSt m c 14) -∗ Q r)
          -∗ wpk c (k0_part16 (F := F) i x hx waM (Memref.isWhole_whole _) o ho sbM (Memref.isWhole_whole _) cmM (Memref.isWhole_whole _)
              wbM (Memref.isWhole_whole _) cc0_scratch3 cc0_scratch4 cc0_scratch5 c v2 h7) Q) := by
  iintro H Hk
  simp only [k0_part16_eq_skeleton]; unfold k0_part16_skel
  simp only [Prog.lift, Prog.bind_op, Prog.bind_ret, Prog.pure_eq_ret]
  iapply (done_two m K 13 14 12 14 rfl rfl rfl rfl rfl) $$ H
  iintro H
  iapply wpk_ret
  iapply Hk
  iexact H

end Parts

end Cert.KernelIdeal.Proof

end
-- ==== Proof.Body.lean ====
/-
  The body of the kernel at each step, from the state before the step to the state after it.
-/
module

public import proofs.«01_k».proof.Proof.Step

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ) (K : Dev nD × Kd → ℕ)

section Body

variable {c : Dev nD} (i : grid0.Coords) (x : Memref sig .tc .vmem S8192x512 .f32) (hx : x.IsWhole)
  (o : Memref sig .tc .vmem S512x4096 .f32) (ho : o.IsWhole)

/-- The sends of a step after the first, whether it still has one to make or not. -/
theorem step_sends (hi : 0 < (i 0).val) {Q : (Σ' (arg0 : BitVec 32) (d0 : Dev nD) (v2 : BitVec 32) (v13 : BitVec 32), BitVec 32) → sProp (MT nD τ sig Unit (Elt F) ℕ UU ℕ)} :
    iprop(Recs m K ∗ owing c (owedSend c (min ((i 0).val + 3) 15)) ∗ sendSt m c (min ((i 0).val + 3) 15))
      ⊢ iprop((∀ a v2 v13 v25, iprop(owing c (owedSend c (min ((i 0).val + 4) 15)) ∗ sendSt m c (min ((i 0).val + 4) 15)) -∗ Q ⟨a, c, v2, v13, v25⟩)
          -∗ wpk c (k0_part17 (F := F) i x hx waM (Memref.isWhole_whole _) o ho sbM (Memref.isWhole_whole _) cmM (Memref.isWhole_whole _)
              wbM (Memref.isWhole_whole _) cc0_scratch3 cc0_scratch4 cc0_scratch5) Q) := by
  by_cases h : (i 0).val < 12
  · rw [Nat.min_eq_left (by omega : (i 0).val + 3 ≤ 15), Nat.min_eq_left (by omega : (i 0).val + 4 ≤ 15)]
    exact step_sends_mid m K i x hx o ho ⟨hi, h⟩
  · rw [Nat.min_eq_right (by omega : 15 ≤ (i 0).val + 3), Nat.min_eq_right (by omega : 15 ≤ (i 0).val + 4)]
    iintro ⟨-, HS⟩ Hk
    iapply (step_sends_late (F := F) i x hx o ho (by omega)) $$ HS
    iexact Hk

/-- The first step. -/
theorem body_first (hi : (i 0).val = 0) {X : Vec F S512x4096 .f32} {Q : PUnit → sProp (MT nD τ sig Unit (Elt F) ℕ UU ℕ)} :
    iprop(Recs m K ∗ wHome m c (par (i 0).val) ∗ wHome m c (par ((i 0).val + 1)) ∗ owns (c : Thread nD τ) x fullShare (xst m c) ∗ fillSt m c 0 ∗ (∃ X, cmOwn (F := F) c c X)
        ∗ owing c (O₀ c) ∗ signSt m c 0 ∗ cred (tallyAt (barCell c) () 16)
        ∗ atPos ER (barCell c) 0 ∅ 0 ∗ sendTok (F := F) c ∗ recvPre (F := F) c ∗ owns (c : Thread nD τ) o fullShare X)
      ⊢ iprop((iprop(owns (c : Thread nD τ) x fullShare (xst m c) ∗ owns (c : Thread nD τ) o fullShare (acc m c (i 0).val) ∗ owing c (owedSend c 4) ∗ sendSt m c 4 ∗ recvSt m c (i 0).val
              ∗ wFly m c (par ((i 0).val + 1)) (behind c ((i 0).val + 1)) ∗ wHome m c (par (i 0).val) ∗ atPos ER (barCell c) 1 ∅ 0)
              -∗ Q ⟨⟩)
          -∗ wpk c (cc0_body (F := F) i x hx waM (Memref.isWhole_whole _) o ho sbM (Memref.isWhole_whole _) cmM (Memref.isWhole_whole _)
              wbM (Memref.isWhole_whole _) cc0_scratch3 cc0_scratch4 cc0_scratch5) Q) := by
  have hp : (par (i 0).val) = 0 := by rw [hi]; rfl
  have hr : behind c (i 0).val = behind c 0 := by rw [hi]
  have h5 : k0_cond5 i = 1#1 := (cond5_iff i).mpr (by omega)
  have h6 : ¬ k0_cond6 i = 1#1 := fun h => by have := (cond6_iff i).mp h; omega
  have h7 : ¬ k0_cond7 i = 1#1 := fun h => by have := (cond7_iff i).mp h; omega
  rw [cc0_body_eq_skeleton]; unfold cc0_body_skel
  iintro ⟨#HR, Hw, Hh, Hx, Hf, Hc, HO, Hs, Hcr, Ha, Ht, Hr, Ho⟩ Hk
  ihave Hw := (show wHome m c (par (i 0).val) ⊢ wHome m c 0 from by rw [hp]) $$ Hw
  iapply wpk_bind
  iapply (step_sends_first m K i x hx o ho hi) $$ [Hw Hx Hf Hc HO Hs Hcr Ha Ht Hr]
  · isplitr
    · iexact HR
    isplitl [Hw]
    · iexact Hw
    isplitl [Hx]
    · iexact Hx
    isplitl [Hf]
    · iexact Hf
    isplitl [Hc]
    · iexact Hc
    isplitl [HO]
    · iexact HO
    isplitl [Hs]
    · iexact Hs
    isplitl [Hcr]
    · iexact Hcr
    isplitl [Ha]
    · iexact Ha
    isplitl [Ht]
    · iexact Ht
    iexact Hr
  iintro %a %v2 %v13 %v25 ⟨Hw, Hx, Hr, HO, Ha, Hs⟩
  ihave Hw := (show wFly m c 0 (behind c 0) ⊢ wFly m c (par (i 0).val) (behind c (i 0).val) from by rw [hp, hr]) $$ Hw
  ihave Hr := (show recvSt m c 0 ⊢ recvSt m c (i 0).val from by rw [hi]) $$ Hr
  iapply wpk_bind
  iapply (step_receives_first m K i x hx o ho 4 hi (by omega)) $$ [HO Hr Hh Hw]
  · isplitr
    · iexact HR
    isplitl [HO]
    · iexact HO
    isplitl [Hr]
    · iexact Hr
    isplitl [Hh]
    · iexact Hh
    iexact Hw
  iintro ⟨HO, Hr, Hn, Hw⟩
  unfold wIn
  icases Hw with ⟨Hw, Hv, Hwa⟩
  simp only [Prog.lift, Prog.bind_op, Prog.bind_ret, Prog.pure_eq_ret]
  iapply (load_piece (off19_eq i)) $$ Hw
  iintro Hw
  simp only [dif_pos h5, dif_neg h6, dif_neg h7, Prog.lift, Prog.bind_op, Prog.bind_ret, Prog.pure_eq_ret]
  iapply (load_out zero_off) $$ Ho
  iintro Ho
  iapply (store_out zero_off) $$ Ho
  iintro Ho
  ihave Hw := (wIn_home m (par (i 0).val) (behind c (i 0).val)) $$ [Hw Hv Hwa]
  · unfold wIn
    isplitl [Hw]
    · iexact Hw
    isplitl [Hv] <;> iassumption
  iapply wpk_ret
  iapply Hk
  isplitl [Hx]
  · iexact Hx
  isplitl [Ho]
  · rw [hi]; iexact Ho
  isplitl [HO]
  · iexact HO
  isplitl [Hs]
  · iexact Hs
  isplitl [Hr]
  · iexact Hr
  isplitl [Hn]
  · iexact Hn
  isplitl [Hw]
  · iexact Hw
  iexact Ha

/-- A step between the first and the last. -/
theorem body_mid (r : ℕ) (hr : (i 0).val = r + 1) (hi : (i 0).val < 15) {Q : PUnit → sProp (MT nD τ sig Unit (Elt F) ℕ UU ℕ)} :
    iprop(Recs m K ∗ owing c (owedSend c (min ((i 0).val + 3) 15)) ∗ sendSt m c (min ((i 0).val + 3) 15) ∗ recvSt m c r
        ∗ wFly m c (par (i 0).val) (behind c (i 0).val) ∗ wHome m c (par ((i 0).val + 1)) ∗ owns (c : Thread nD τ) o fullShare (acc m c r))
      ⊢ iprop((iprop(owns (c : Thread nD τ) o fullShare (acc m c (i 0).val) ∗ owing c (owedSend c (min ((i 0).val + 4) 15)) ∗ sendSt m c (min ((i 0).val + 4) 15)
              ∗ recvSt m c (i 0).val ∗ wFly m c (par ((i 0).val + 1)) (behind c ((i 0).val + 1)) ∗ wHome m c (par (i 0).val))
              -∗ Q ⟨⟩)
          -∗ wpk c (cc0_body (F := F) i x hx waM (Memref.isWhole_whole _) o ho sbM (Memref.isWhole_whole _) cmM (Memref.isWhole_whole _)
              wbM (Memref.isWhole_whole _) cc0_scratch3 cc0_scratch4 cc0_scratch5) Q) := by
  have h5 : ¬ k0_cond5 i = 1#1 := fun h => by have := (cond5_iff i).mp h; omega
  have h6 : k0_cond6 i = 1#1 := (cond6_iff i).mpr (by omega)
  have h7 : ¬ k0_cond7 i = 1#1 := fun h => by have := (cond7_iff i).mp h; omega
  rw [cc0_body_eq_skeleton]; unfold cc0_body_skel
  iintro ⟨#HR, HO, Hs, Hr, Hw, Hh, Ho⟩ Hk
  iapply wpk_bind
  iapply (step_sends m K i x hx o ho (by omega)) $$ [HO Hs]
  · isplitr
    · iexact HR
    isplitl [HO]
    · iexact HO
    iexact Hs
  iintro %a %v2 %v13 %v25 ⟨HO, Hs⟩
  iapply wpk_bind
  iapply (step_receives_mid m K i x hx o ho r (min ((i 0).val + 4) 15) hr hi (by omega)) $$ [HO Hr Hh Hw]
  · isplitr
    · iexact HR
    isplitl [HO]
    · iexact HO
    isplitl [Hr]
    · iexact Hr
    isplitl [Hh]
    · iexact Hh
    iexact Hw
  iintro ⟨HO, Hr, Hn, Hw⟩
  unfold wIn
  icases Hw with ⟨Hw, Hv, Hwa⟩
  simp only [Prog.lift, Prog.bind_op, Prog.bind_ret, Prog.pure_eq_ret]
  iapply (load_piece (off19_eq i)) $$ Hw
  iintro Hw
  simp only [dif_neg h5, dif_pos h6, dif_neg h7, Prog.lift, Prog.bind_op, Prog.bind_ret, Prog.pure_eq_ret]
  iapply (load_out zero_off) $$ Ho
  iintro Ho
  iapply (load_out zero_off) $$ Ho
  iintro Ho
  iapply (store_out zero_off) $$ Ho
  iintro Ho
  ihave Hw := (wIn_home m (par (i 0).val) (behind c (i 0).val)) $$ [Hw Hv Hwa]
  · unfold wIn
    isplitl [Hw]
    · iexact Hw
    isplitl [Hv] <;> iassumption
  iapply wpk_ret
  iapply Hk
  isplitl [Ho]
  · rw [hr]; iexact Ho
  isplitl [HO]
  · iexact HO
  isplitl [Hs]
  · iexact Hs
  isplitl [Hr]
  · iexact Hr
  isplitl [Hn]
  · iexact Hn
  iexact Hw

/-- With all sends made, their departures can be awaited. -/
theorem sends_made (c : Dev nD) : iprop(sendSt m c 15 ∗ sendPos (F := F) c) ⊢ doneSt m c 0 := by
  unfold sendSt sendPos doneSt
  rw [← bigSep_sep']
  refine bigSep_mono fun k _ => ?_
  change (_ : sProp 𝕄) ⊢ _
  have hk : k.val ≤ 15 := by omega
  by_cases h : k.val = 0
  · rw [if_pos h, if_pos (by omega : k.val ≤ 0), if_pos h]
  · rw [if_neg h, if_pos hk, if_neg (by omega : ¬ k.val ≤ 0)]

/-- The last step. -/
theorem body_last (hi : (i 0).val = 15) {Q : PUnit → sProp (MT nD τ sig Unit (Elt F) ℕ UU ℕ)} :
    iprop(Recs m K ∗ owing c (owedSend c (min ((i 0).val + 3) 15)) ∗ sendSt m c (min ((i 0).val + 3) 15) ∗ sendPos (F := F) c ∗ recvSt m c 14
        ∗ wFly m c (par (i 0).val) (behind c (i 0).val) ∗ owns (c : Thread nD τ) o fullShare (acc m c 14))
      ⊢ iprop((iprop(owns (c : Thread nD τ) o fullShare (outV m c 15) ∗ owing c (0 : CellTallies nD τ sig Unit) ∗ doneSt m c 15
              ∗ recvSt m c 15 ∗ wHome m c (par (i 0).val))
              -∗ Q ⟨⟩)
          -∗ wpk c (cc0_body (F := F) i x hx waM (Memref.isWhole_whole _) o ho sbM (Memref.isWhole_whole _) cmM (Memref.isWhole_whole _)
              wbM (Memref.isWhole_whole _) cc0_scratch3 cc0_scratch4 cc0_scratch5) Q) := by
  have h5 : ¬ k0_cond5 i = 1#1 := fun h => by have := (cond5_iff i).mp h; omega
  have h6 : ¬ k0_cond6 i = 1#1 := fun h => by have := (cond6_iff i).mp h; omega
  have h7 : k0_cond7 i = 1#1 := (cond7_iff i).mpr (by omega)
  rw [cc0_body_eq_skeleton]; unfold cc0_body_skel
  iintro ⟨#HR, HO, Hs, Hp, Hr, Hw, Ho⟩ Hk
  iapply wpk_bind
  iapply (step_sends m K i x hx o ho (by omega)) $$ [HO Hs]
  · isplitr
    · iexact HR
    isplitl [HO]
    · iexact HO
    iexact Hs
  iintro %a %v2 %v13 %v25 ⟨HO, Hs⟩
  rw [show min ((i 0).val + 4) 15 = 15 from by omega]
  iapply wpk_bind
  iapply (step_receives_last m K i x hx o ho 14 15 hi hi (by omega)) $$ [HO Hr Hw]
  · isplitr
    · iexact HR
    isplitl [HO]
    · iexact HO
    isplitl [Hr]
    · iexact Hr
    iexact Hw
  iintro ⟨HO, Hr, Hw⟩
  unfold wIn
  icases Hw with ⟨Hw, Hv, Hwa⟩
  simp only [Prog.lift, Prog.bind_op, Prog.bind_ret, Prog.pure_eq_ret]
  iapply (load_piece (off19_eq i)) $$ Hw
  iintro Hw
  simp only [dif_neg h5, dif_neg h6, dif_pos h7, Prog.lift, Prog.bind_op, Prog.bind_ret, Prog.pure_eq_ret]
  ihave Hd := (sends_made m c) $$ [Hs Hp]
  · isplitl [Hs] <;> iassumption
  rw [owedSend_end c 15 le_rfl]
  iapply wpk_bind
  iapply (last_part9 m K i x hx o ho h7) $$ [Ho HO Hd]
  · isplitr
    · iexact HR
    isplitl [Ho]
    · iexact Ho
    isplitl [HO]
    · iexact HO
    iexact Hd
  iintro %r ⟨Ho, HO, Hd⟩
  iapply wpk_bind
  iapply (last_part10 m K i x hx o ho h7) $$ [HO Hd]
  · isplitr
    · iexact HR
    isplitl [HO] <;> iassumption
  iintro %r10 ⟨HO, Hd⟩
  iapply wpk_bind
  iapply (last_part11 m K i x hx o ho h7) $$ [HO Hd]
  · isplitr
    · iexact HR
    isplitl [HO] <;> iassumption
  iintro %r11 ⟨HO, Hd⟩
  iapply wpk_bind
  iapply (last_part12 m K i x hx o ho h7) $$ [HO Hd]
  · isplitr
    · iexact HR
    isplitl [HO] <;> iassumption
  iintro %r12 ⟨HO, Hd⟩
  iapply wpk_bind
  iapply (last_part13 m K i x hx o ho h7) $$ [HO Hd]
  · isplitr
    · iexact HR
    isplitl [HO] <;> iassumption
  iintro %r13 ⟨HO, Hd⟩
  iapply wpk_bind
  iapply (last_part14 m K i x hx o ho h7) $$ [HO Hd]
  · isplitr
    · iexact HR
    isplitl [HO] <;> iassumption
  iintro %r14 ⟨HO, Hd⟩
  iapply wpk_bind
  iapply (last_part15 m K i x hx o ho h7) $$ [HO Hd]
  · isplitr
    · iexact HR
    isplitl [HO] <;> iassumption
  iintro %r15 ⟨HO, Hd⟩
  iapply wpk_bind
  iapply (last_part16 m K i x hx o ho h7) $$ [HO Hd]
  · isplitr
    · iexact HR
    isplitl [HO] <;> iassumption
  iintro %r16 ⟨HO, Hd⟩
  iapply (done_step m K 15 14 15 rfl rfl rfl) $$ [HO Hd]
  · isplitr
    · iexact HR
    isplitl [HO] <;> iassumption
  iintro ⟨HO, Hd⟩
  ihave Hw := (wIn_home m (par (i 0).val) (behind c (i 0).val)) $$ [Hw Hv Hwa]
  · unfold wIn
    isplitl [Hw]
    · iexact Hw
    isplitl [Hv] <;> iassumption
  iapply wpk_ret
  iapply Hk
  rw [hi]
  isplitl [Ho]
  · iexact Ho
  isplitl [HO]
  · iexact HO
  isplitl [Hd]
  · iexact Hd
  isplitl [Hr]
  · iexact Hr
  iexact Hw

end Body

end Cert.KernelIdeal.Proof

end
-- ==== Proof.Ends.lean ====
/-
  The scratch buffers cut into their slots when the kernel starts and put together again when it ends, and the
  protocol's cells closed at the end.
-/
module

public import proofs.«01_k».proof.Proof.Body

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ) (K : Dev nD × Kd → ℕ)

/-! ## A buffer and its pieces -/

section Pieces

variable {s : Shape} {e : EltTy} {b : Ref sig .tc} {c : Dev nD} {T : Type} [Fintype T] [DecidableEq T]

/-- A whole buffer is its pieces, whatever they hold. -/
theorem pieces_split {M : Memref sig .tc .vmem s e} (r : T → Rect s) (hr : ∀ t a, (r t).stride a = 1)
    (hd : ∀ t t', t ≠ t' → Disjoint (r t).set (r t').set)
    (hcov : (Finset.univ : Finset T).biUnion (fun t => (r t).set) = Finset.univ) :
    iprop(∃ f, (M.view.loc (c : Thread nD τ) ↦[M.view.set]{fullShare} f))
      ⊢ (bigSep Finset.univ fun t => iprop(∃ X, owns (c : Thread nD τ) (M.slice (r t) (hr t)) fullShare X) : sProp (MT nD τ sig Unit (Elt F) ℕ UU ℕ)) := by
  have h : ∀ f, (M.view.loc (c : Thread nD τ) ↦[M.view.set]{fullShare} f : sProp 𝕄)
      ⊢ bigSep Finset.univ fun t => iprop(∃ X, owns (c : Thread nD τ) (M.slice (r t) (hr t)) fullShare X) := fun f => by
    rw [pointsTo_rects (c : Thread nD τ) M fullShare r hr hd hcov f]
    refine bigSep_mono fun t _ => ?_
    change (_ : sProp 𝕄) ⊢ _
    iintro H
    iexists _
    iexact H
  iintro ⟨%f, H⟩
  iapply (h f) $$ H

/-- And the pieces make the whole buffer again. -/
theorem pieces_join {M : Memref sig .tc .vmem s e} (hM : M.view.set = Finset.univ) (f₀ : Buf (Elt F) (M.view.loc (c : Thread nD τ)))
    (r : T → Rect s) (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, owns (c : Thread nD τ) (M.slice (r t) (hr t)) fullShare X) : sProp (MT nD τ sig Unit (Elt F) ℕ UU ℕ))
      ⊢ iprop(∃ f, (M.view.loc (c : Thread nD τ) ↦{fullShare} f)) := by
  have hdv : ∀ t t' : T, t ≠ t' → Disjoint (M.view.slice (r t)).set (M.view.slice (r t')).set := fun t t' htt => by
    rw [View.set_slice, View.set_slice]; exact (Finset.disjoint_map _).mpr (hd t t' htt)
  have hcv : (Finset.univ : Finset T).biUnion (fun t => (show Finset M.view.ty.Idx from (M.view.slice (r t)).set)) = Finset.univ := by
    ext i
    refine ⟨fun _ => Finset.mem_univ _, fun _ => ?_⟩
    have hi : i ∈ M.view.set := by rw [hM]; exact Finset.mem_univ _
    rw [View.set, Finset.mem_map] at hi
    obtain ⟨y, -, rfl⟩ := hi
    obtain ⟨t, -, hy⟩ := Finset.mem_biUnion.mp (hcov.symm ▸ Finset.mem_univ y)
    exact Finset.mem_biUnion.mpr ⟨t, Finset.mem_univ _, by rw [View.set_slice]; exact Finset.mem_map_of_mem _ hy⟩
  refine (bigSep_mono fun t _ => ?_).trans (Ring.pointsTo_blocks_join_exists (ℓ := M.view.loc (c : Thread nD τ)) (fun t => (M.view.slice (r t)).set) hdv hcv f₀)
  change (_ : sProp 𝕄) ⊢ _
  unfold owns
  iintro ⟨%X, %f, -, H⟩
  iexists f
  iexact H

end Pieces

theorem rS_disjoint (j j' : Fin 16) (h : j ≠ j') : Disjoint (rS j).set (rS j').set :=
  Ring.lead_disjoint (s := S16x512x512) (0 : Fin 3) 1 (fun j : Fin 16 => ![j.val, 0, 0]) S1x512x512.size inbS (fun j => (Nat.one_mul _).symm) rfl j j' h
theorem rS_cover : (Finset.univ : Finset (Fin 16)).biUnion (fun j => (rS j).set) = Finset.univ :=
  Ring.lead_cover (s := S16x512x512) (0 : Fin 3) 1 (fun j : Fin 16 => ![j.val, 0, 0]) S1x512x512.size inbS (fun j => (Nat.one_mul _).symm)
    (fun j a ha => by fin_cases a <;> first | exact absurd rfl ha | rfl) rfl (fun a ha => by fin_cases a <;> first | exact absurd rfl ha | rfl) rfl
theorem rW_disjoint (j j' : Fin 2) (h : j ≠ j') : Disjoint (rW j).set (rW j').set :=
  Ring.lead_disjoint (s := S2x512x4096) (0 : Fin 3) 1 (fun j : Fin 2 => ![j.val, 0, 0]) S1x512x4096.size inbW (fun j => (Nat.one_mul _).symm) rfl j j' h
theorem rW_cover : (Finset.univ : Finset (Fin 2)).biUnion (fun j => (rW j).set) = Finset.univ :=
  Ring.lead_cover (s := S2x512x4096) (0 : Fin 3) 1 (fun j : Fin 2 => ![j.val, 0, 0]) S1x512x4096.size inbW (fun j => (Nat.one_mul _).symm)
    (fun j a ha => by fin_cases a <;> first | exact absurd rfl ha | rfl) rfl (fun a ha => by fin_cases a <;> first | exact absurd rfl ha | rfl) rfl

/-! ## The three scratch buffers -/

abbrev sbAny (c : Dev nD) : sProp 𝕄 := bigSep Finset.univ fun j : Fin 16 => iprop(∃ X, sbOwn (F := F) c j X)
abbrev cmAny (c : Dev nD) : sProp 𝕄 := bigSep Finset.univ fun j : Fin 16 => iprop(∃ X, cmOwn (F := F) c j X)
abbrev wbAny (c : Dev nD) : sProp 𝕄 := bigSep Finset.univ fun b : Fin 2 => iprop(∃ X, wbOwn (F := F) c b X)

theorem scratch_split (c : Dev nD) : (Pipeline.scopedRest cfg0.spec c : sProp 𝕄) ⊢ iprop(sbAny (F := F) c ∗ cmAny (F := F) c ∗ wbAny (F := F) c) := by
  rw [show (Pipeline.scopedRest cfg0.spec c : sProp 𝕄) = _ from scopedRest0_eq c]
  iintro ⟨⟨%f0, H0⟩, ⟨%f1, H1⟩, ⟨%f2, H2⟩⟩
  isplitl [H0]
  · iapply (pieces_split (F := F) (c := c) (M := sbM) rS (fun _ _ => rfl) rS_disjoint rS_cover)
    iexists f0
    rw [show sbM.view.set = Finset.univ from View.set_whole _]
    iexact H0
  isplitl [H1]
  · iapply (pieces_split (F := F) (c := c) (M := cmM) rS (fun _ _ => rfl) rS_disjoint rS_cover)
    iexists f1
    rw [show cmM.view.set = Finset.univ from View.set_whole _]
    iexact H1
  · iapply (pieces_split (F := F) (c := c) (M := wbM) rW (fun _ _ => rfl) rW_disjoint rW_cover)
    iexists f2
    rw [show wbM.view.set = Finset.univ from View.set_whole _]
    iexact H2

include m in
theorem scratch_join (c : Dev nD) : iprop(sbAny (F := F) c ∗ cmAny (F := F) c ∗ wbAny (F := F) c) ⊢ (Pipeline.scopedRest cfg0.spec c : sProp 𝕄) := by
  rw [show (Pipeline.scopedRest cfg0.spec c : sProp 𝕄) = _ from scopedRest0_eq c]
  iintro ⟨H0, H1, H2⟩
  isplitl [H0]
  · iapply (show sbAny (F := F) c ⊢ iprop(∃ f, (((c : Thread nD τ).loc cc0_scratch0) ↦{fullShare} f)) from
      pieces_join (F := F) (c := c) (M := sbM) (View.set_whole _) (m ((c : Thread nD τ).loc cc0_scratch0)) rS (fun _ _ => rfl) rS_disjoint rS_cover) $$ H0
  isplitl [H1]
  · iapply (show cmAny (F := F) c ⊢ iprop(∃ f, (((c : Thread nD τ).loc cc0_scratch1) ↦{fullShare} f)) from
      pieces_join (F := F) (c := c) (M := cmM) (View.set_whole _) (m ((c : Thread nD τ).loc cc0_scratch1)) rS (fun _ _ => rfl) rS_disjoint rS_cover) $$ H1
  · iapply (show wbAny (F := F) c ⊢ iprop(∃ f, (((c : Thread nD τ).loc cc0_scratch2) ↦{fullShare} f)) from
      pieces_join (F := F) (c := c) (M := wbM) (View.set_whole _) (m ((c : Thread nD τ).loc cc0_scratch2)) rW (fun _ _ => rfl) rW_disjoint rW_cover) $$ H2

/-! ## The weights, held in two halves -/

theorem weights_halves (c : Dev nD) :
    (((c : Thread nD τ).loc main_arg1) ↦{fullShare} m ((c : Thread nD τ).loc main_arg1) : sProp 𝕄) ⊣⊢ iprop(waHalf m c 0 ∗ waHalf m c 1) :=
  pointsTo_share (PosShare.mem_left_op_right fullShare)

/-! ## Closing the cells -/

/-- At the end every cell is closed: its semaphore is zero, and the slots are back. -/
theorem close_cells (c : Dev nD) :
    iprop(Recs m K ∗ doneSt m c 15 ∗ recvSt m c 15 ∗ atPos ER (barCell c) 1 ∅ 0)
      ⊢ |={Set.univ}=> iprop(sbAny (F := F) c ∗ cmAny (F := F) c
          ∗ semVal (barCell c) 0 ∗ (bigSep Finset.univ fun s : Fin 16 => semVal (recvCell c s) 0) ∗ (bigSep Finset.univ fun k : Fin 16 => semVal (sendCell c k) 0)) := by
  have hsend : iprop(Recs m K ∗ doneSt m c 15) ⊢ |={Set.univ}=> ((bigSep Finset.univ fun k : Fin 16 => iprop(∃ X, sbOwn (F := F) c (ahead c k) X)) ∗ (bigSep Finset.univ fun k : Fin 16 => semVal (sendCell c k) 0)) := by
    rw [← bigSep_sep']
    unfold doneSt
    refine (BI.bigSep_with_persistent (Ψ := fun k : Fin 16 => iprop(|={Set.univ}=> ((∃ X, sbOwn (F := F) c (ahead c k) X) ∗ semVal (sendCell c k) 0))) fun k _ => ?_).trans (bigSep_fupd _ _)
    rw [if_pos (by omega : k.val ≤ 15)]
    iintro ⟨#HR, Hs, Ha⟩
    ihave #HI := (Recs_cell m K (c, Kd.send k)) $$ HR
    icases HI with ⟨#HI, -⟩
    imod (cell_close ER (Rd m) (g := sendCell c k) (κ := K (c, Kd.send k)) (Set.mem_univ _) (fun h => h) (R := if k.val = 0 then 0 else 1) (fun r hr => by
      by_cases h : k.val = 0
      · rcases Nat.eq_zero_or_pos r with h0 | h0
        · subst h0; rw [show k = 0 from Fin.ext h]; exact duties_send_zero m c
        · exact duties_later m _ r h0
      · rw [if_neg h] at hr; exact duties_later m _ r hr)) $$ [Ha] with Hv
    · isplitr
      · iexact HI
      iexact Ha
    imodintro
    isplitl [Hs]
    · iexists _
      iexact Hs
    iexact Hv
  have hrecv : iprop(Recs m K ∗ recvSt m c 15) ⊢ |={Set.univ}=> ((bigSep Finset.univ fun u : Fin 16 => iprop(∃ X, cmOwn (F := F) c (behind c u) X)) ∗ (bigSep Finset.univ fun u : Fin 16 => semVal (recvCell c (behind c u)) 0)) := by
    rw [← bigSep_sep']
    unfold recvSt
    refine (BI.bigSep_with_persistent (Ψ := fun u : Fin 16 => iprop(|={Set.univ}=> ((∃ X, cmOwn (F := F) c (behind c u) X) ∗ semVal (recvCell c (behind c u)) 0))) fun k _ => ?_).trans (bigSep_fupd _ _)
    rw [if_pos (by omega : k.val ≤ 15)]
    iintro ⟨#HR, Hs, Ha⟩
    ihave #HI := (Recs_cell m K (c, Kd.recv (behind c k))) $$ HR
    icases HI with ⟨#HI, -⟩
    imod (cell_close ER (Rd m) (g := recvCell c (behind c k)) (κ := K (c, Kd.recv (behind c k))) (Set.mem_univ _) (fun h => h) (R := if k.val = 0 then 0 else 1) (fun r hr => by
      by_cases h : k.val = 0
      · rcases Nat.eq_zero_or_pos r with h0 | h0
        · subst h0; rw [h, behind_zero]; exact duties_recv_self m c
        · exact duties_later m _ r h0
      · rw [if_neg h] at hr; exact duties_later m _ r hr)) $$ [Ha] with Hv
    · isplitr
      · iexact HI
      iexact Ha
    imodintro
    isplitl [Hs]
    · iexists _
      iexact Hs
    iexact Hv
  iintro ⟨#HR, Hd, Hr, Ha⟩
  imod hsend $$ [Hd] with Hs
  · isplitr
    · iexact HR
    iexact Hd
  imod hrecv $$ [Hr] with Hr
  · isplitr
    · iexact HR
    iexact Hr
  ihave #HI := (Recs_cell m K (c, Kd.bar)) $$ HR
  icases HI with ⟨#HI, -⟩
  imod (cell_close ER (Rd m) (g := barCell c) (κ := K (c, Kd.bar)) (Set.mem_univ _) (fun h => h) (R := 1) (fun r hr => duties_later m _ r hr)) $$ [Ha] with Hb
  · isplitr
    · iexact HI
    iexact Ha
  imodintro
  icases Hs with ⟨Hs, Hsv⟩
  icases Hr with ⟨Hr, Hrv⟩
  isplitl [Hs]
  · rw [show sbAny (F := F) c = _ from bigSep_univ_equiv (aheadEquiv c) _]; iexact Hs
  isplitl [Hr]
  · rw [show cmAny (F := F) c = _ from bigSep_univ_equiv (behindEquiv c) _]; iexact Hr
  isplitl [Hb]
  · iexact Hb
  isplitl [Hrv]
  · rw [bigSep_univ_equiv (behindEquiv c) (fun s : Fin 16 => (semVal (recvCell c s) 0 : sProp 𝕄))]; iexact Hrv
  iexact Hsv

end Cert.KernelIdeal.Proof

end
-- ==== Proof.Obligation.lean ====
/-
  The state between the steps, and every step carrying it on: the pipeline's obligation.
-/
module

public import proofs.«01_k».proof.Proof.Ends

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-- Before the first step. -/
def stFirst (c : Dev nD) : sProp 𝕄 :=
  iprop(∃ K, Recs m K ∗ wHome m c 0 ∗ wHome m c 1 ∗ fillSt m c 0 ∗ (∃ X, cmOwn (F := F) c c X) ∗ signSt m c 0
    ∗ cred (tallyAt (barCell c) () 16) ∗ atPos ER (barCell c) 0 ∅ 0 ∗ sendTok (F := F) c ∗ recvPre (F := F) c ∗ sendPos (F := F) c)

/-- Before step `r + 1`, one of those after the first. -/
def stMid (c : Dev nD) (r : ℕ) : sProp 𝕄 :=
  iprop(∃ K, Recs m K ∗ sendSt m c (min (r + 1 + 3) 15) ∗ recvSt m c r ∗ wFly m c (par (r + 1)) (behind c (r + 1))
    ∗ wHome m c (par (r + 1 + 1)) ∗ sendPos (F := F) c ∗ atPos ER (barCell c) 1 ∅ 0)

/-- After the last step: all buffers and semaphores are back. -/
def stLast (c : Dev nD) : sProp 𝕄 :=
  iprop(sbAny (F := F) c ∗ cmAny (F := F) c ∗ semVal (barCell c) 0
    ∗ (bigSep Finset.univ fun s : Fin 16 => semVal (recvCell c s) 0) ∗ (bigSep Finset.univ fun k : Fin 16 => semVal (sendCell c k) 0)
    ∗ wHome m c 0 ∗ wHome m c 1)

/-- The state before step `n`. -/
def St (c : Dev nD) : ℕ → sProp 𝕄
  | 0 => stFirst m c
  | r + 1 => if r < 15 then stMid m c r else stLast m c

theorem St_mid (c : Dev nD) (r : ℕ) (h : r < 15) : St m c (r + 1) = stMid m c r := by
  show (if r < 15 then stMid m c r else stLast m c) = _
  exact if_pos h
theorem St_last (c : Dev nD) : St m c 16 = stLast m c := by
  show (if 15 < 15 then stMid m c 15 else stLast m c) = _
  exact if_neg (by decide)

/-- The slots of the weights' buffer alternate. -/
theorem par_two (n : ℕ) : par (n + 1 + 1) = par n := Fin.ext (by unfold par; simp only; omega)

/-- What the device still owes before step `n`. -/
def owedAt (c : Dev nD) : ℕ → CellTallies nD τ sig Unit
  | 0 => O₀ c
  | r + 1 => owedSend c (min (r + 1 + 3) 15)

/-- The pipeline's data. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => outV m c t.val
  Φ t := St m c t.val
  q _ := fullShare
  owed t := owedAt c t.val

/-- The staged columns of `x` are the same at every step. -/
theorem iblk_x (c : Dev nD) (t : Fin cfg0.N) : iblk m c 0 t = xst m c := rfl

/-- The input's staging buffer holds them at every step. -/
theorem before_x (c : Dev nD) (t : Fin cfg0.N) (d) : (dats m 0 c).before 0 t d = xst m c :=
  (((dats m 0 c).before_in_eq_fetched 0 rfl (fun _ => rfl) (fun _ _ _ => rfl) (fun t => rfl) t d).trans rfl)

/-- Every step stores the output. -/
theorem out_used : ∀ i : grid0.Coords, idle0 1 i = false := by decide +kernel

/-- The output's staging buffer holds the sum so far at every step after the first. -/
theorem before_o (c : Dev nD) (t : Fin cfg0.N) (r : ℕ) (hr : t.val = r + 1) (d) : (dats m 0 c).before 1 t d = acc m c r := by
  have hN : cfg0.N = 16 := N_0
  have hlt := t.isLt
  have hfl : (cfg0.win 1).flush ⟨t.val - 1, Nat.lt_of_le_of_lt (Nat.sub_le _ _) t.isLt⟩ = false := by
    rw [Bool.eq_false_iff]
    intro h
    have := (flush0_1 _).mp h
    simp only at this
    omega
  rw [(dats m 0 c).before_out_kept 1 rfl t (by omega) hfl out_used (fun _ _ => rfl) d]
  show outV m c (t.val - 1) = acc m c r
  rw [hr, Nat.add_sub_cancel]
  unfold outV
  rw [if_neg (by omega)]

/-- What a step is given: its state, what is owed, and the two staging buffers. -/
theorem body_step (c : Dev nD) (t : Fin cfg0.N) (X : Vec F S512x4096 .f32) (hX : ∀ r, t.val = r + 1 → X = acc m c r) {Q : PUnit → sProp (MT nD τ sig Unit (Elt F) ℕ UU ℕ)} :
    iprop(St m c t.val ∗ owing c (owedAt c t.val) ∗ owns (c : Thread nD τ) (st0_0 t) fullShare (xst m c) ∗ owns (c : Thread nD τ) (st0_1 t) fullShare X)
      ⊢ iprop((iprop(St m c (t.val + 1) ∗ owing c (owedAt c (t.val + 1)) ∗ owns (c : Thread nD τ) (st0_0 t) fullShare (xst m c)
            ∗ owns (c : Thread nD τ) (st0_1 t) fullShare (outV m c t.val)) -∗ Q ⟨⟩)
          -∗ wpk c (bodyAt0 (F := F) t) Q) := by
  have hN : cfg0.N = 16 := N_0
  have hlt := t.isLt
  have hc : ((grid0.coords t) 0).val = t.val := coords_val t
  rcases Nat.eq_zero_or_pos t.val with h0 | h0
  · -- the first step
    rw [h0]
    have e : outV m c 0 = acc m c 0 := by unfold outV; exact if_neg (by decide)
    rw [e, St_mid m c 0 (by decide), show St m c 0 = stFirst m c from rfl]
    unfold stFirst stMid
    iintro ⟨⟨%K, #HR, Hw0, Hw1, Hf, Hc, Hs, Hcr, Ha, Ht, Hr, Hp⟩, HO, Hx, Ho⟩ Hk
    have hb := body_first (c := c) m K (grid0.coords t) (st0_0 t) (hstage0_0 ((cfg0.slots t 0).cast nbuf0_0)) (st0_1 t) (hstage0_1 ((cfg0.slots t 1).cast nbuf0_1)) (hc.trans h0) (X := X) (Q := Q)
    rw [hc.trans h0] at hb
    iapply hb $$ [Hw0 Hw1 Hx Hf Hc HO Hs Hcr Ha Ht Hr Ho]
    · isplitr
      · iexact HR
      isplitl [Hw0]
      · iexact Hw0
      isplitl [Hw1]
      · iexact Hw1
      isplitl [Hx]
      · iexact Hx
      isplitl [Hf]
      · iexact Hf
      isplitl [Hc]
      · iexact Hc
      isplitl [HO]
      · iexact HO
      isplitl [Hs]
      · iexact Hs
      isplitl [Hcr]
      · iexact Hcr
      isplitl [Ha]
      · iexact Ha
      isplitl [Ht]
      · iexact Ht
      isplitl [Hr]
      · iexact Hr
      iexact Ho
    iintro ⟨Hx, Ho, HO, Hs, Hr, Hw, Hh, Ha⟩
    iapply Hk
    isplitl [Hs Hr Hw Hh Hp Ha]
    · iexists K
      isplitr
      · iexact HR
      isplitl [Hs]
      · iexact Hs
      isplitl [Hr]
      · iexact Hr
      isplitl [Hw]
      · iexact Hw
      isplitl [Hh]
      · iexact Hh
      isplitl [Hp]
      · iexact Hp
      iexact Ha
    isplitl [HO]
    · iexact HO
    isplitl [Hx]
    · iexact Hx
    iexact Ho
  obtain ⟨r, hr⟩ : ∃ r, t.val = r + 1 := ⟨t.val - 1, by omega⟩
  obtain rfl := hX r hr
  rcases Nat.lt_or_ge t.val 15 with h15 | h15
  · -- a step between
    have hb := fun K => body_mid (c := c) m K (grid0.coords t) (st0_0 t) (hstage0_0 ((cfg0.slots t 0).cast nbuf0_0)) (st0_1 t) (hstage0_1 ((cfg0.slots t 1).cast nbuf0_1)) r (hc.trans hr) (by omega) (Q := Q)
    rw [hc, hr] at hb
    rw [hr]
    have e : outV m c (r + 1) = acc m c (r + 1) := by unfold outV; exact if_neg (by omega)
    rw [e, St_mid m c (r + 1) (by omega), St_mid m c r (by omega)]
    unfold stMid
    rw [par_two (r + 1)]
    iintro ⟨⟨%K, #HR, Hs, Hr, Hw, Hh, Hp, Ha⟩, HO, Hx, Ho⟩ Hk
    iapply (hb K) $$ [HO Hs Hr Hw Hh Ho]
    · isplitr
      · iexact HR
      isplitl [HO]
      · iexact HO
      isplitl [Hs]
      · iexact Hs
      isplitl [Hr]
      · iexact Hr
      isplitl [Hw]
      · iexact Hw
      isplitl [Hh]
      · iexact Hh
      iexact Ho
    iintro ⟨Ho, HO, Hs, Hr, Hw, Hh⟩
    iapply Hk
    isplitl [Hs Hr Hw Hh Hp Ha]
    · iexists K
      isplitr
      · iexact HR
      isplitl [Hs]
      · iexact Hs
      isplitl [Hr]
      · iexact Hr
      isplitl [Hw]
      · iexact Hw
      isplitl [Hh]
      · iexact Hh
      isplitl [Hp]
      · iexact Hp
      iexact Ha
    isplitl [HO]
    · iexact HO
    isplitl [Hx]
    · iexact Hx
    iexact Ho
  · -- the last step
    have h15 : t.val = 15 := by omega
    obtain rfl : r = 14 := by omega
    have hb := fun K => body_last (c := c) m K (grid0.coords t) (st0_0 t) (hstage0_0 ((cfg0.slots t 0).cast nbuf0_0)) (st0_1 t) (hstage0_1 ((cfg0.slots t 1).cast nbuf0_1)) (hc.trans h15) (Q := fun a => iprop(|={Set.univ}=> Q a))
    rw [hc, h15] at hb
    rw [h15]
    rw [show St m c (15 + 1) = stLast m c from St_last m c, show St m c 15 = stMid m c 14 from St_mid m c 14 (by decide)]
    rw [show owedAt c (15 + 1) = 0 from owedSend_end c 15 le_rfl, show owedAt c 15 = owedSend c (min (15 + 3) 15) from rfl]
    unfold stMid stLast
    iintro ⟨⟨%K, #HR, Hs, Hr, Hw, Hh, Hp, Ha⟩, HO, Hx, Ho⟩ Hk
    iapply wpk_fupd
    iapply (hb K) $$ [HO Hs Hp Hr Hw Ho]
    · isplitr
      · iexact HR
      isplitl [HO]
      · iexact HO
      isplitl [Hs]
      · iexact Hs
      isplitl [Hp]
      · iexact Hp
      isplitl [Hr]
      · iexact Hr
      isplitl [Hw]
      · iexact Hw
      iexact Ho
    iintro ⟨Ho, HO, Hd, Hr, Hw⟩
    imod (close_cells m K c) $$ [Hd Hr Ha] with ⟨Hsb, Hcm, Hb, Hrv, Hsv⟩
    · isplitr
      · iexact HR
      isplitl [Hd]
      · iexact Hd
      isplitl [Hr]
      · iexact Hr
      iexact Ha
    imodintro
    iapply Hk
    isplitl [Hsb Hcm Hb Hrv Hsv Hw Hh]
    · isplitl [Hsb]
      · iexact Hsb
      isplitl [Hcm]
      · iexact Hcm
      isplitl [Hb]
      · iexact Hb
      isplitl [Hrv]
      · iexact Hrv
      isplitl [Hsv]
      · iexact Hsv
      isplitl [Hh]
      · iexact Hh
      iexact Hw
    isplitl [HO]
    · iexact HO
    isplitl [Hx]
    · iexact Hx
    iexact Ho

theorem both_windows (Φ : Fin 2 → sProp (MT nD τ sig Unit (Elt F) ℕ UU ℕ)) : iprop(Φ 0 ∗ Φ 1) ⊢ bigSep Finset.univ Φ := by rw [bigSep_W0]

/-- Every step carries the state on. -/
theorem body_obligation (c : Dev nD) : BodyObligation (dats (F := F) m 0 c) (defs₀ (F := F)) 𝒱₀ () Set.univ := fun t => by
  rw [show (bigSep Finset.univ fun w => iprop(∃ d, owns (c : Thread nD τ) ((cfg0.win w).stage (cfg0.slots t w)) fullShare ((dats m 0 c).before w t d)) : sProp 𝕄) = _ from bigSep_W0 _]
  rw [show (dats m 0 c).Φ t.castSucc = St m c t.val from congrArg (St m c) (Fin.val_castSucc t),
    show (dats m 0 c).Φ t.succ = St m c (t.val + 1) from congrArg (St m c) (Fin.val_succ t)]
  iintro ⟨HS, Ho, ⟨%d0, Hx⟩, ⟨%d1, Hout⟩⟩
  rw [before_x m c t d0]
  unfold Dat.owesAt Pipeline.owesWithin
  icases Ho with ⟨%W, %hW, HO⟩
  iapply (body_step m c t ((dats m 0 c).before 1 t d1) (fun r hr => before_o m c t r hr d1)) $$ [HS HO Hx Hout]
  · isplitl [HS]
    · iexact HS
    isplitl [HO]
    · unfold owing
      iexists W
      iexact HO
    isplitl [Hx] <;> iassumption
  iintro ⟨HS, HO, Hx, Hout⟩
  isplitl [HS]
  · iexact HS
  isplitl [HO]
  · unfold owing
    icases HO with ⟨%W', HO⟩
    iexists W'
    isplitr
    · ipureintro; exact fun _ _ => Or.inl trivial
    iexact HO
  iapply (both_windows _)
  have hi : idle0 1 (grid0.coords t) = false := out_used _
  isplitl [Hx]
  · iexact Hx
  · simp only [hi]
    iexact Hout

end Cert.KernelIdeal.Proof

end
-- ==== Proof.Ghost.lean ====
/-
  The ghost state made at launch, dealt to the devices.
-/
module

public import proofs.«01_k».proof.Proof.Obligation

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-! ## The cells, their tokens, and the launch element -/

/-- The kernel's own semaphores: of the weight copies, of the arriving blocks, of the departing ones. -/
def osem : Fin 2 ⊕ (Fin 16 ⊕ Fin 16) → SemLoc sig
  | .inl b => .dma (wS b)
  | .inr (.inl s) => .dma (recvS s)
  | .inr (.inr k) => .dma (sendS k)

theorem osemFacts : Pipeline.OwnSemFacts cfg0.spec osem := by decide +kernel

def ringCells : Finset (GSem nD τ sig) := Finset.univ.map ⟨kcell, kcell_inj⟩

/-- The duty tokens of device `c`'s cells: every device's barrier raise, every arrival, every departure. -/
def tokOf : Dev nD × (Fin 16 ⊕ (Fin 16 ⊕ Fin 16)) → GSem nD τ sig × ℕ × Fin 16
  | (c, .inl d) => (barCell c, 0, d)
  | (c, .inr (.inl s)) => (recvCell c s, 0, 0)
  | (c, .inr (.inr k)) => (sendCell c k, 0, 0)

theorem tokOf_inj : Function.Injective tokOf := by
  rintro ⟨c, x⟩ ⟨c', x'⟩ h
  have hc : c = c' := by
    have h1 : (tokOf (c, x)).1.1.1 = (tokOf (c', x')).1.1.1 := congrArg (fun y => y.1.1.1) h
    rcases x with d | s | k <;> rcases x' with d' | s' | k' <;> exact h1
  subst hc
  have hk : (tokOf (c, x)).1 = (tokOf (c, x')).1 := congrArg Prod.fst h
  have hd : (tokOf (c, x)).2.2 = (tokOf (c, x')).2.2 := congrArg (fun y => y.2.2) h
  rcases x with d | s | k <;> rcases x' with d' | s' | k'
  · exact congrArg (fun d => (c, Sum.inl d)) hd
  · exact absurd (kcell_inj (a₁ := (c, Kd.bar)) (a₂ := (c, Kd.recv s')) hk) (fun e => by cases congrArg Prod.snd e)
  · exact absurd (kcell_inj (a₁ := (c, Kd.bar)) (a₂ := (c, Kd.send k')) hk) (fun e => by cases congrArg Prod.snd e)
  · exact absurd (kcell_inj (a₁ := (c, Kd.recv s)) (a₂ := (c, Kd.bar)) hk) (fun e => by cases congrArg Prod.snd e)
  · have := congrArg Prod.snd (kcell_inj (a₁ := (c, Kd.recv s)) (a₂ := (c, Kd.recv s')) hk)
    injection this with this; injection this with this; subst this; rfl
  · exact absurd (kcell_inj (a₁ := (c, Kd.recv s)) (a₂ := (c, Kd.send k')) hk) (fun e => by cases congrArg Prod.snd e)
  · exact absurd (kcell_inj (a₁ := (c, Kd.send k)) (a₂ := (c, Kd.bar)) hk) (fun e => by cases congrArg Prod.snd e)
  · exact absurd (kcell_inj (a₁ := (c, Kd.send k)) (a₂ := (c, Kd.recv s')) hk) (fun e => by cases congrArg Prod.snd e)
  · have := congrArg Prod.snd (kcell_inj (a₁ := (c, Kd.send k)) (a₂ := (c, Kd.send k')) hk)
    injection this with this; injection this with this; subst this; rfl

def ringToks : Finset (GSem nD τ sig × ℕ × Fin 16) := Finset.univ.map ⟨tokOf, tokOf_inj⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun d : Fin 16 => dutyTok ER (barCell c) 0 d)
    ∗ (bigSep Finset.univ fun s : Fin 16 => dutyTok ER (recvCell c s) 0 0)
    ∗ (bigSep Finset.univ fun k : Fin 16 => dutyTok ER (sendCell c k) 0 0))

/-- What the launch element deals device `c`. -/
def G (c : Dev nD) : sProp 𝕄 :=
  iprop((bigSep Finset.univ fun k : Kd => roundState ER (Rd m) (kcell (c, k)) 0)
    ∗ (bigSep Finset.univ fun k : Kd => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c => toks c := by
    unfold ringToks; rw [bigSep_map, bigSep_univ_prod]
    refine bigSep_congr fun c _ => ?_
    unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## Opening the cells -/

theorem unscopedSems0_bar (c : Dev nD) : (unscopedSems0 c : sProp 𝕄) = semVal (barCell c) 0 := by
  unfold unscopedSems0; rw [bigSep_eq_bigSepL_of_eq [SemLoc.reg barS] (by decide) (by decide)]; rfl

/-- The weight semaphores and the kernel's other own ones. -/
theorem ownSems0_split (c : Dev nD) :
    (Pipeline.ownSems0 osem c : sProp 𝕄)
      = iprop((bigSep Finset.univ fun b : Fin 2 => semVal ((c : Thread nD τ), .dma (wS b)) 0)
        ∗ (bigSep Finset.univ fun s : Fin 16 => semVal (recvCell c s) 0) ∗ (bigSep Finset.univ fun k : Fin 16 => semVal (sendCell c k) 0)) := by
  unfold Pipeline.ownSems0; rw [bigSep_univ_sum, bigSep_univ_sum]; rfl

/-- Something for every kind of cell. -/
theorem kinds (Φ : Kd → sProp 𝕄) :
    bigSep Finset.univ Φ = iprop(Φ Kd.bar ∗ (bigSep Finset.univ fun s : Fin 16 => Φ (Kd.recv s)) ∗ (bigSep Finset.univ fun k : Fin 16 => Φ (Kd.send k))) := by
  rw [bigSep_univ_sum, bigSep_univ_sum, bigSep_univ_eq_bigSepL [()] (by decide) (by decide) (fun a => Φ (.inl a))]; rfl

/-- The weight semaphores of device `c` at zero. -/
abbrev wSems (c : Dev nD) : sProp 𝕄 := bigSep Finset.univ fun b : Fin 2 => semVal ((c : Thread nD τ), .dma (wS b)) 0

theorem core_alloc (c : Dev nD) :
    iprop(Pipeline.ownSems0 osem c ∗ unscopedSems0 c ∗ G m c)
      ⊢ |={Set.univ}=> iprop(wSems (F := F) c ∗ (bigSep Finset.univ fun k : Kd => iprop(∃ κ : ℕ, cellInv ER (Rd m) κ (kcell (c, k))))
        ∗ (bigSep Finset.univ fun k : Kd => iprop(atPos ER (kcell (c, k)) 0 ∅ 0 ∗ reached ER (kcell (c, k)) 0)) ∗ toks c) := by
  rw [ownSems0_split, unscopedSems0_bar]; unfold G
  have hs : iprop(semVal (barCell c) 0 ∗ (bigSep Finset.univ fun s : Fin 16 => semVal (recvCell c s) 0) ∗ (bigSep Finset.univ fun k : Fin 16 => semVal (sendCell c k) 0))
      ⊢ (bigSep Finset.univ fun k : Kd => semVal (kcell (c, k)) 0 : sProp 𝕄) := by
    rw [kinds]; exact BIBase.Entails.rfl
  have ha : iprop((bigSep Finset.univ fun k : Kd => semVal (kcell (c, k)) 0) ∗ (bigSep Finset.univ fun k : Kd => roundState ER (Rd m) (kcell (c, k)) 0))
      ⊢ (|={Set.univ}=> bigSep Finset.univ fun k : Kd => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  iintro ⟨⟨Hw, Hs⟩, Hb, Hst, Hat, Ht⟩
  ihave H := hs $$ [Hb Hs]
  · isplitl [Hb] <;> iassumption
  imod ha $$ [H Hst] with HI
  · isplitl [H] <;> iassumption
  imodintro
  isplitl [Hw]; · iassumption
  isplitl [HI]; · iassumption
  isplitl [Hat] <;> iassumption

/-! ## Each token to the device that pays with it -/

/-- The tokens device `c` pays with: its raise of every barrier, and its sends. -/
def payToks (c : Dev nD) : sProp 𝕄 :=
  iprop((bigSep Finset.univ fun d : Fin 16 => dutyTok ER (barCell d) 0 c) ∗ sendTok (F := F) c)

theorem toks_around : (bigSep Finset.univ fun c : Dev nD => toks (F := F) c) ⊢ (bigSep Finset.univ fun c : Dev nD => payToks (F := F) c) := by
  have h1 : (bigSep Finset.univ fun c : Dev nD => toks (F := F) c)
      = iprop((bigSep Finset.univ fun c : Dev nD => bigSep Finset.univ fun d : Fin 16 => dutyTok ER (barCell d) 0 c)
        ∗ (bigSep Finset.univ fun c : Dev nD => bigSep Finset.univ fun k : Fin 16 => dutyTok ER (recvCell (ahead c k) c) 0 0)
        ∗ (bigSep Finset.univ fun c : Dev nD => bigSep Finset.univ fun k : Fin 16 => dutyTok ER (sendCell c k) 0 0)) := by
    unfold toks
    rw [bigSep_sep', bigSep_sep', bigSep_univ_comm (fun c : Dev nD => fun d : Fin 16 => dutyTok ER (barCell c) 0 d),
      bigSep_univ_comm (fun c : Dev nD => fun s : Fin 16 => dutyTok ER (recvCell c s) 0 0)]
    congr 2
    exact bigSep_congr fun s _ => bigSep_univ_equiv (aheadEquiv s) (fun c : Dev nD => dutyTok ER (recvCell c s) 0 0)
  rw [h1, ← bigSep_sep', ← bigSep_sep']
  refine bigSep_mono fun c _ => ?_
  change (_ : sProp 𝕄) ⊢ _
  unfold payToks sendTok
  rw [← bigSep_sep']
  refine sep_mono BIBase.Entails.rfl (bigSep_mono fun k _ => ?_)
  change (_ : sProp 𝕄) ⊢ _
  by_cases hk : k.val = 0
  · rw [if_pos hk]; iintro -; iempintro
  · rw [if_neg hk]; iintro ⟨Hr, Hs⟩; isplitl [Hs] <;> iassumption

/-! ## The global step -/

/-- Every cell's invariant, and that it stands at its first round. -/
def records (K : Dev nD × Kd → ℕ) : sProp 𝕄 :=
  bigSep Finset.univ (fun ck : Dev nD × Kd => iprop(cellInv ER (Rd m) (K ck) (kcell ck) ∗ reached ER (kcell ck) 0))

instance records_persistent (K : Dev nD × Kd → ℕ) : BI.Persistent (records m K) := by unfold records; infer_instance

/-- What is device `c`'s alone. -/
def mine (c : Dev nD) : sProp 𝕄 :=
  iprop(wSems (F := F) c ∗ (bigSep Finset.univ fun k : Kd => atPos ER (kcell (c, k)) 0 ∅ 0) ∗ payToks (F := F) c)

/-- What device `c` starts from. -/
def G' (c : Dev nD) : sProp 𝕄 := iprop(∃ K, records m K ∗ mine (F := F) c)

theorem regroup :
    (bigSep Finset.univ fun c : Dev nD => iprop(wSems (F := F) c ∗ (bigSep Finset.univ fun k : Kd => iprop(∃ κ : ℕ, cellInv ER (Rd m) κ (kcell (c, k))))
        ∗ (bigSep Finset.univ fun k : Kd => iprop(atPos ER (kcell (c, k)) 0 ∅ 0 ∗ reached ER (kcell (c, k)) 0)) ∗ toks (F := F) c))
      ⊢ bigSep Finset.univ (G' m) := by
  have hr : (bigSep Finset.univ fun c : Dev nD => (bigSep Finset.univ fun k : Kd => iprop(atPos ER (kcell (c, k)) 0 ∅ 0 ∗ reached ER (kcell (c, k)) 0) : sProp 𝕄))
      = iprop((bigSep Finset.univ fun c : Dev nD => bigSep Finset.univ fun k : Kd => atPos ER (kcell (c, k)) 0 ∅ 0)
        ∗ (bigSep Finset.univ fun ck : Dev nD × Kd => reached ER (kcell ck) 0)) := by
    rw [bigSep_congr fun c _ => bigSep_sep' .., bigSep_sep', ← bigSep_univ_prod (fun ck : Dev nD × Kd => reached ER (kcell ck) 0)]
  have hm : iprop((bigSep Finset.univ fun c : Dev nD => wSems (F := F) c)
        ∗ (bigSep Finset.univ fun c : Dev nD => bigSep Finset.univ fun k : Kd => atPos ER (kcell (c, k)) 0 ∅ 0)
        ∗ (bigSep Finset.univ fun c : Dev nD => payToks (F := F) c))
      ⊢ (bigSep Finset.univ fun c : Dev nD => mine (F := F) c) := by
    rw [← bigSep_sep', ← bigSep_sep']; exact BIBase.Entails.rfl
  rw [bigSep_sep', bigSep_sep', bigSep_sep', hr, ← bigSep_univ_prod (fun ck : Dev nD × Kd => iprop(∃ κ : ℕ, cellInv ER (Rd m) κ (kcell ck)))]
  iintro ⟨Hw, HI, ⟨Hat, #HR⟩, Ht⟩
  ihave HK := (BI.bigSep_exists_pi Finset.univ (fun (ck : Dev nD × Kd) κ => cellInv ER (Rd m) κ (kcell ck))) $$ HI
  icases HK with ⟨%K, #HI⟩
  ihave Ht' := toks_around (F := F) $$ Ht
  ihave HM := hm $$ [Hw Hat Ht']
  · isplitl [Hw]; · iexact Hw
    isplitl [Hat]; · iexact Hat
    iexact Ht'
  have hx : iprop(records m K ∗ bigSep Finset.univ fun c : Dev nD => mine (F := F) c) ⊢ bigSep Finset.univ (G' m) :=
    BI.bigSep_with_persistent (R := records m K) fun c _ => by
      unfold G'; iintro ⟨#HR, HM⟩; iexists K; isplitr; · iexact HR
      iexact HM
  iapply hx
  isplitr
  · unfold records; rw [bigSep_sep']; isplitr; · iexact HI
    iexact HR
  iexact HM

theorem glob :
    (bigSep Finset.univ fun c : Dev nD => iprop(Pipeline.ownSems0 osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.KernelIdeal.Proof

end
-- ==== Proof.Launch.lean ====
/-
  From the launch to the first state, and from the last state to the end.
-/
module

public import proofs.«01_k».proof.Proof.Ghost

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

variable (ρ : Dev nD → PrngReg)

/-- The launch: nothing counted, the random registers anything. -/
abbrev s₀ : MemSt nD τ sig (Elt F) := ⟨m, fun _ => 0, ρ⟩

theorem share_eq (c : Dev nD) (w : Fin cfg0.W) : (dats m 0 c).share w = fullShare := by unfold Dat.share; split <;> rfl

/-! ## What the others owe a device is what it starts with as credit -/

theorem owedBar_bar (d c : Dev nD) : owedBar d 0 (barCell c) () = 1 := by
  unfold owedBar
  simp only [Finset.sum_apply, Finsupp.finset_sum_apply, tallyAt_apply]
  rw [Finset.sum_eq_single c]
  · exact if_pos (by simp)
  · intro b _ hb
    exact if_neg fun h => hb (congrArg (fun g : GSem nD τ sig => g.1.1) h.1).symm
  · intro h; exact absurd (by simp) h

theorem owedBar_recv (d c : Dev nD) (s : Fin 16) : owedBar d 0 (recvCell c s) () = 0 := by
  unfold owedBar
  simp only [Finset.sum_apply, Finsupp.finset_sum_apply, tallyAt_apply]
  refine Finset.sum_eq_zero fun b _ => if_neg fun h => ?_
  cases congrArg Prod.snd (kcell_inj (a₁ := (c, Kd.recv s)) (a₂ := (b, Kd.bar)) h.1)

theorem owedSend_bar (d c : Dev nD) : owedSend d 0 (barCell c) () = 0 := by
  unfold owedSend
  simp only [Finset.sum_apply, Finsupp.finset_sum_apply, tallyAt_apply]
  refine Finset.sum_eq_zero fun k _ => if_neg fun h => ?_
  cases congrArg Prod.snd (kcell_inj (a₁ := (c, Kd.bar)) (a₂ := (ahead d k.val, Kd.recv d)) h.1)

theorem owedSend_recv (d c s : Dev nD) (hs : s ≠ c) : owedSend d 0 (recvCell c s) () = if d = s then N else 0 := by
  unfold owedSend
  simp only [Finset.sum_apply, Finsupp.finset_sum_apply, tallyAt_apply]
  have hinj {k : Fin 16} (h : recvCell c s = recvCell (ahead d k.val) d) : c = ahead d k.val ∧ s = d := by
    have e := kcell_inj (a₁ := (c, Kd.recv s)) (a₂ := (ahead d k.val, Kd.recv d)) h
    refine ⟨congrArg Prod.fst e, ?_⟩
    have e2 := congrArg Prod.snd e
    injection e2 with e2; injection e2
  split
  · rename_i hd; subst hd
    rw [Finset.sum_eq_single (dist d c)]
    · exact if_pos ⟨by rw [ahead_dist], trivial⟩
    · intro k _ hk
      refine if_neg fun h => hk ?_
      rw [(hinj h.1).1, dist_ahead]
    · intro h
      have hd : 0 < (dist d c).val := Nat.pos_of_ne_zero fun e => hs ((dist_eq_zero d c).mp e)
      exact absurd (by simpa using hd) h
  · rename_i hd
    exact Finset.sum_eq_zero fun k _ => if_neg fun h => hd (hinj h.1).2.symm

theorem launch_bar (c : Dev nD) :
    tallyOn (barCell c) (launchCredit (Pipeline.owing O₀) 0 (barCell c)) = (tallyAt (barCell c) () 16 : CellTallies nD τ sig Unit) := by
  unfold tallyAt
  refine congrArg _ (Finsupp.ext fun u => ?_); cases u
  rw [Pipeline.launchCredit_owing, Finsupp.single_eq_same,
    Finset.sum_congr rfl fun d _ => show O₀ d (barCell c) () = 1 from by
      unfold O₀; rw [Pi.add_apply, Finsupp.add_apply, owedBar_bar, owedSend_bar]]
  rfl

theorem launch_recv (c s : Dev nD) (hs : s ≠ c) :
    tallyOn (recvCell c s) (launchCredit (Pipeline.owing O₀) 0 (recvCell c s)) = (tallyAt (recvCell c s) () N : CellTallies nD τ sig Unit) := by
  unfold tallyAt
  refine congrArg _ (Finsupp.ext fun u => ?_); cases u
  rw [Pipeline.launchCredit_owing, Finsupp.single_eq_same,
    Finset.sum_congr rfl fun d _ => show O₀ d (recvCell c s) () = if d = s then N else 0 from by
      unfold O₀; rw [Pi.add_apply, Finsupp.add_apply, owedBar_recv, owedSend_recv d c s hs, Nat.zero_add],
    Finset.sum_ite_eq' Finset.univ s, if_pos (Finset.mem_univ _)]

/-- The credit device `c` starts with: one unit of each device at its barrier, a block from every other. -/
def creds (c : Dev nD) : sProp 𝕄 :=
  iprop(cred (tallyAt (barCell c) () 16)
    ∗ bigSep Finset.univ fun s : Fin 16 => if s = c then iprop(emp) else cred (tallyAt (recvCell c s) () N))

theorem creds_intro (c : Dev nD) : (Pipeline.launchCred O₀ c : sProp 𝕄) ⊢ creds (F := F) c := by
  unfold Pipeline.launchCred
  refine (bigSep_subset (t := Finset.univ.map ⟨kloc, kloc_inj⟩) (Finset.subset_univ _)).trans ?_
  rw [bigSep_map, kinds]
  unfold creds
  have h (s : Fin 16) : (cred (tallyOn (recvCell c s) (launchCredit (Pipeline.owing O₀) 0 (recvCell c s))) : sProp 𝕄)
      ⊢ if s = c then iprop(emp) else cred (tallyAt (recvCell c s) () N) := by
    by_cases hs : s = c
    · rw [if_pos hs]; iintro -; iempintro
    · rw [if_neg hs]; exact Entails.of_eq (congrArg (fun x => (cred x : sProp 𝕄)) (launch_recv c s hs))
  refine sep_mono (Entails.of_eq (congrArg (fun x => (cred x : sProp 𝕄)) (launch_bar c))) (BIBase.Entails.trans ?_ (bigSep_mono fun s _ => h s))
  iintro ⟨Hr, -⟩; iexact Hr

/-! ## Into the first state -/

/-- What device `c` brings to the pipeline. -/
def start (c : Dev nD) : sProp 𝕄 :=
  iprop((∃ K, Recs m K) ∗ mine (F := F) c ∗ creds (F := F) c ∗ waHalf m c 0 ∗ waHalf m c 1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hu : (Pipeline.unscopedRestP Pipeline.Prefetch.none cfg0.spec c (fun b => m ((c : Thread nD τ).loc b)) : sProp 𝕄)
      ⊢ iprop(waHalf m c 0 ∗ waHalf m c 1) := by
    rw [Pipeline.unscopedRestP_none]
    refine (Entails.of_eq (unscopedRest0_eq c _)).trans (weights_halves m c).1
  iintro ⟨Hu, #HL, Hc, -, HG⟩
  ihave Hw := hu $$ Hu
  ihave Hc' := (creds_intro (F := F) c) $$ Hc
  unfold G'
  icases HG with ⟨%K, #HR, HM⟩
  imodintro
  isplitl
  · unfold start
    isplitr
    · iexists K; unfold Recs; isplitr
      · unfold records; iexact HR
      · iexact HL
    isplitl [HM]; · iexact HM
    isplitl [Hc']; · iexact Hc'
    iexact Hw
  · iempintro

/-- The barrier tokens and the gather buffer make every raise ready; the slot of the device itself stays. -/
theorem signs_ready (c : Dev nD) :
    iprop((bigSep Finset.univ fun d : Fin 16 => dutyTok ER (barCell d) 0 c) ∗ cmAny (F := F) c)
      ⊢ iprop(signSt m c 0 ∗ (∃ X, cmOwn (F := F) c c X)) := by
  have hs : iprop((bigSep Finset.univ fun d : Fin 16 => dutyTok ER (barCell d) 0 c)
        ∗ (bigSep Finset.univ fun d : Fin 16 => (Rd m).payload (barCell d) 0 c)) ⊢ signSt m c 0 := by
    unfold signSt
    rw [← bigSep_sep']
    refine bigSep_mono fun d _ => ?_
    change (_ : sProp 𝕄) ⊢ _
    rw [if_neg (Nat.not_lt_zero _)]
  have hc : cmAny (F := F) c ⊢ iprop((bigSep Finset.univ fun d : Fin 16 => (Rd m).payload (barCell d) 0 c) ∗ (∃ X, cmOwn (F := F) c c X)) := by
    rw [bigSep_univ_at (fun d : Fin 16 => (Rd m).payload (barCell d) 0 c) c]
    refine (Entails.of_eq (bigSep_univ_at (fun d : Fin 16 => iprop(∃ X, cmOwn (F := F) c d X)) c)).trans ?_
    change iprop(_ ∗ _) ⊢ iprop((_ ∗ _) ∗ _)
    have he : (bigSep (Finset.univ.erase c) fun d : Fin 16 => iprop(∃ X, cmOwn (F := F) c d X))
        ⊢ (bigSep (Finset.univ.erase c) fun d : Fin 16 => (Rd m).payload (barCell d) 0 c : sProp 𝕄) := by
      refine bigSep_mono fun d hd => ?_
      change (_ : sProp 𝕄) ⊢ _
      rw [payload_bar, if_neg (Finset.ne_of_mem_erase hd).symm]
    have h0 : (emp : sProp 𝕄) ⊢ (Rd m).payload (barCell c) 0 c := by rw [payload_bar, if_pos rfl]
    iintro ⟨Hc, H⟩
    isplitl [H]
    · isplitr
      · iapply h0; iempintro
      · iapply he; iexact H
    · iexact Hc
  iintro ⟨Ht, H⟩
  ihave H' := hc $$ H
  icases H' with ⟨Hp, Hc⟩
  isplitl [Ht Hp]
  · iapply hs; isplitl [Ht] <;> iassumption
  · iexact Hc

/-- The credits and the places of the arriving blocks, in the order of the steps. -/
theorem recvs_ready (c : Dev nD) :
    iprop((bigSep Finset.univ fun s : Fin 16 => if s = c then iprop(emp) else cred (tallyAt (recvCell c s) () N))
        ∗ (bigSep Finset.univ fun s : Fin 16 => atPos ER (recvCell c s) 0 ∅ 0)) ⊢ recvPre (F := F) c := by
  rw [← bigSep_sep', bigSep_univ_equiv (behindEquiv c)]
  unfold recvPre
  refine bigSep_mono fun u _ => ?_
  change iprop((if behind c u.val = c then iprop(emp) else cred (tallyAt (recvCell c (behind c u.val)) () N)) ∗ atPos ER (recvCell c (behind c u.val)) 0 ∅ 0) ⊢ _
  by_cases hu : u.val ≤ 0
  · rw [if_pos hu]; iintro ⟨-, H⟩; iexact H
  · rw [if_neg hu, if_neg (behind_ne c u (by omega))]

theorem fill_start (c : Dev nD) : sbAny (F := F) c ⊢ fillSt m c 0 := by
  unfold fillSt
  refine bigSep_mono fun j _ => ?_
  change (_ : sProp 𝕄) ⊢ _
  rw [if_neg (Nat.not_lt_zero _)]

theorem two (Φ : Fin 2 → sProp 𝕄) : bigSep Finset.univ Φ = iprop(Φ 0 ∗ Φ 1) := bigSep_univ_eq_bigSepL [0, 1] (by decide) (by decide) Φ

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  have hat : (bigSep Finset.univ fun k : Kd => atPos ER (kcell (c, k)) 0 ∅ 0 : sProp 𝕄)
      = iprop(atPos ER (barCell c) 0 ∅ 0 ∗ (bigSep Finset.univ fun s : Fin 16 => atPos ER (recvCell c s) 0 ∅ 0)
        ∗ (bigSep Finset.univ fun k : Fin 16 => atPos ER (sendCell c k) 0 ∅ 0)) := kinds _
  have hw : wSems (F := F) c = iprop(semVal ((c : Thread nD τ), .dma (wS 0)) 0 ∗ semVal ((c : Thread nD τ), .dma (wS 1)) 0) := two _
  have hwb : wbAny (F := F) c = iprop((∃ X, wbOwn (F := F) c 0 X) ∗ (∃ X, wbOwn (F := F) c 1 X)) := two _
  change _ ⊢ stFirst m c
  unfold start mine creds payToks
  rw [hat, hw]
  iintro ⟨⟨⟨%K, HR⟩, ⟨⟨Hw0, Hw1⟩, ⟨Hab, Har, Has⟩, Htb, Hts⟩, ⟨Hcb, Hcr⟩, Ha0, Ha1⟩, -, Hsc⟩
  ihave Hsc' := (scratch_split (F := F) c) $$ Hsc
  icases Hsc' with ⟨Hsb, Hcm, Hwb⟩
  ihave Hwb' := (Entails.of_eq hwb) $$ Hwb
  icases Hwb' with ⟨Hb0, Hb1⟩
  ihave Hg := (signs_ready m c) $$ [Htb Hcm]
  · isplitl [Htb] <;> iassumption
  icases Hg with ⟨Hsg, Hcc⟩
  ihave Hrp := (recvs_ready (F := F) c) $$ [Hcr Har]
  · isplitl [Hcr] <;> iassumption
  ihave Hfl := (fill_start m c) $$ Hsb
  unfold stFirst wHome sendPos
  iexists K
  isplitl [HR]; · iassumption
  isplitl [Hb0 Hw0 Ha0]
  · isplitl [Hb0]; · iassumption
    isplitl [Hw0] <;> iassumption
  isplitl [Hb1 Hw1 Ha1]
  · isplitl [Hb1]; · iassumption
    isplitl [Hw1] <;> iassumption
  isplitl [Hfl]; · iassumption
  isplitl [Hcc]; · iassumption
  isplitl [Hsg]; · iassumption
  isplitl [Hcb]; · iassumption
  isplitl [Hab]; · iassumption
  isplitl [Hts]; · iassumption
  isplitl [Hrp]; · iassumption
  iexact Has

/-! ## Out of the last state -/

/-- What device `c` keeps for the end: its barrier at zero and its weights as they were. -/
def finish (c : Dev nD) : sProp 𝕄 :=
  iprop(unscopedSems0 c ∗ (((c : Thread nD τ).loc main_arg1) ↦{fullShare} m ((c : Thread nD τ).loc main_arg1)))

theorem phi1_exit (c : Dev nD) :
    (dats m 0 c).Φ (Fin.last cfg0.N) ⊢ iprop(finish m c ∗ Pipeline.ownSems0 osem c ∗ Pipeline.scopedRest cfg0.spec c) := by
  have hw : (bigSep Finset.univ fun b : Fin 2 => semVal ((c : Thread nD τ), .dma (wS b)) 0 : sProp 𝕄)
      = iprop(semVal ((c : Thread nD τ), .dma (wS 0)) 0 ∗ semVal ((c : Thread nD τ), .dma (wS 1)) 0) := two _
  have hwb : wbAny (F := F) c = iprop((∃ X, wbOwn (F := F) c 0 X) ∗ (∃ X, wbOwn (F := F) c 1 X)) := two _
  change St m c 16 ⊢ _
  rw [St_last, ownSems0_split, hw]
  unfold stLast wHome finish
  rw [unscopedSems0_bar]
  iintro ⟨Hsb, Hcm, Hbar, Hr, Hs, ⟨Hb0, Hw0, Ha0⟩, Hb1, Hw1, Ha1⟩
  isplitl [Hbar Ha0 Ha1]
  · isplitl [Hbar]; · iassumption
    iapply (weights_halves m c).2
    isplitl [Ha0] <;> iassumption
  isplitl [Hw0 Hw1 Hr Hs]
  · isplitl [Hw0 Hw1]
    · isplitl [Hw0] <;> iassumption
    isplitl [Hr] <;> iassumption
  iapply (scratch_join m c)
  isplitl [Hsb]; · iassumption
  isplitl [Hcm]; · iassumption
  iapply (Entails.of_eq hwb.symm)
  isplitl [Hb0] <;> iassumption

/-! ## The pipeline's own waits -/

theorem owedAt_cases (c : Dev nD) (t : ℕ) : owedAt c t = O₀ c ∨ ∃ n, owedAt c t = owedSend c n := by
  cases t with
  | zero => exact .inl rfl
  | succ r => exact .inr ⟨_, rfl⟩

theorem stage_other (w : Fin cfg0.W) (s : Fin (cfg0.win w).nbuf) : ∀ κ, kloc κ ≠ .dma ((cfg0.win w).sem s) := by
  revert w s; decide +kernel

theorem waits (c : Dev nD) : (levAts L lv : sProp 𝕄) ⊢ Pipeline.cellsWaits cfgs (dats m) () 0 c :=
  Pipeline.cellsWaits_intro cfgs (dats m) () 0 c fun w s t => by
    have hl := lv_other c (.dma ((cfg0.win w).sem s)) (stage_other w s) ()
    change (levAts L lv : sProp 𝕄) ⊢ MayWait (c : Thread nD τ) (.dma ((cfg0.win w).sem s)) () (owedAt c t.val)
    rcases owedAt_cases c t.val with h | ⟨n, h⟩
    · rw [h]; exact mayWait_low c 0 0 _ hl
    · rw [h]; exact mayWait_send c n _ (by rw [hl]; exact Nat.zero_le _)

end Cert.KernelIdeal.Proof

end
-- ==== Proof.Run.lean ====
/-
  The kernel run whole: it ends, at rest, with the arrays the steps made.
-/
module

public import proofs.«01_k».proof.Proof.Launch
public import Idealize.ShloMosaic.Lib.Pipeline.CollectiveSegs

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

variable (ρ : Dev nD → PrngReg)

/-- What window `w`'s array of device `c` holds at the end. -/
def finalA (c : Dev nD) (w : Fin cfg0.W) : Buf (Elt F) ((cfg0.win w).arr.view.loc (c : Thread nD τ)) := (dats m 0 c).arrAt w cfg0.N

/-- At the end every window's array holds what the steps made of it, and the weights are as they were. -/
def QC (r : PUnit × MemSt nD τ sig (Elt F)) : Prop :=
  (∀ (c : Dev nD) w, r.2.mem ((cfg0.win w).arr.view.loc (c : Thread nD τ)) = finalA m c w)
    ∧ ∀ c : Dev nD, r.2.mem ((c : Thread nD τ).loc main_arg1) = m ((c : Thread nD τ).loc main_arg1)

theorem finish_read (c : Dev nD) (s' : Phys nD τ sig (Elt F)) :
    iprop(finish m c ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') := by
  have hu : (((c : Thread nD τ).loc main_arg1) ↦{fullShare} m ((c : Thread nD τ).loc main_arg1) : sProp 𝕄)
      ⊢ bigSep (Finset.univ : Finset Unit) (fun _ => ((c : Thread nD τ).loc main_arg1) ↦{fullShare} m ((c : Thread nD τ).loc main_arg1)) :=
    Entails.of_eq (by rw [bigSep_univ_eq_bigSepL [()] (by decide) (by decide)]; rfl)
  unfold finish
  iintro ⟨⟨Hu, Hw⟩, -, HSI⟩
  ihave H := (pointsTo_read_all (Finset.univ : Finset Unit) (fun _ => (c : Thread nD τ).loc main_arg1)
    (fun _ => m ((c : Thread nD τ).loc main_arg1)) s' fullShare) $$ [Hw HSI]
  · isplitl [Hw]
    · iapply hu; iexact Hw
    · iexact HSI
  icases H with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hm () (Finset.mem_univ _)⟩
  · iexact HSI

theorem launch_own :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  have hs : BI.own ((embR : Emb (UB × Counters) 𝕄) (initOf ringCells ringToks, 1))
      ⊢ (iprop(BI.own (ER (initOf ringCells ringToks)) ∗ BI.own (((Emb.inr : Emb Counters (UB × Counters)).trans (embR : Emb (UB × Counters) 𝕄)) 1)) : sProp 𝕄) := by
    unfold ER; exact own_pair_emb (A := UB) (B := Counters) embR (initOf ringCells ringToks) 1
  iintro Hu
  ihave H := (ownU_pair _ _) $$ Hu
  icases H with ⟨HP, HX⟩
  ihave HX' := hs $$ HX
  icases HX' with ⟨HX, -⟩
  imod (fund_ring m) $$ HX with HG
  imodintro
  isplitl [HP] <;> iassumption

/-- Every run of the kernel comes to its end, with every count at zero, the arrays as the steps made them. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ osemFacts (Pipeline.PreFacts.none _) EP defs₀ 𝒱₀ m ρ main
    (hmain := fun _ => rfl) (hbody := body_obligation m) (hne := fun w => by fin_cases w <;> exact Nat.succ_pos _)
    (harr := arr_whole0) (hstage := stage_whole0) (hshare := share_eq m)
    (hdistinct := winFacts0.arr_inj) (O₀ := O₀) (howed₀ := fun _ => rfl) (howedN := fun c => owedSend_end c 15 le_rfl)
    (L := L) (lv := lv) (hL := L_of_ne) (hwaits := waits m) (G := G m) (G' := G' m) (u₀ := u₀)
    (hu₀ := launch_own m) (hglob := glob m) (hA := fun _ _ => rfl) (hpf := fun _ k => k.elim0)
    (X := start m) (Y := finish m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := finish_read m)
    (hQ := fun _ h hs => ⟨⟨fun c w => (h c).1 w, fun c => (h c).2.2.2⟩, sem_eq_zero hs fun c => (h c).2.2.1⟩)

/-- The first window only reads: its array is as it was. -/
theorem finalA_x (c : Dev nD) : finalA m c (0 : Fin 2) = m (win0_0.arr.view.loc (c : Thread nD τ)) := (dats m 0 c).arrAt_in (0 : Fin 2) rfl _

end Cert.KernelIdeal.Proof

end
-- ==== Proof.Frames.lean ====
/-
  The frame claims: every program ends at rest with its arguments as they were.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-- Every run of the kernel ends with both arguments as they were and every count at zero. -/
theorem run_frame (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.1 c (0 : Fin 2)).trans (finalA_x m c), h.1.2 c⟩, h.2⟩) (run_main m ρ)

/-- The kernel over exact arithmetic. -/
theorem frame_ideal : Cert.quiescent_KernelIdeal := fun m ρ _ => run_frame m ρ

/-- The two printed programs have the same bodies, so the same definitions. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

theorem defs_eq : Cert.Kernel.defs (F := F) = Cert.KernelIdeal.defs (F := F) :=
  congrArg (Pipeline.defs Cert.KernelIdeal.pcfgs) bodies_eq

/-- The kernel over bits: the same program, at bit values. -/
theorem frame_kernel : Cert.quiescent_Kernel := fun m ρ _ => by
  rw [defs_eq]
  exact run_frame (F := Bits) m ρ

/-- The reference: it runs host operations alone and has no semaphore. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

end Cert.KernelIdeal.Proof

end
-- ==== Proof.Block.lean ====
/-
  What one step adds and what the sum of the steps is, element by element.
-/
module

public import proofs.«01_k».proof.Proof.Run
public import Idealize.ShloMosaic.Lib.Pipeline.Value
public import Idealize.ShloMosaic.Lib.Pointwise

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-! ## The blocks, element by element -/

/-- The rows a step reads of device `s`'s columns of `x` and of the weights. -/
def rowOf (s : Fin 16) (a : Fin 512) : Fin 8192 := ⟨512 * s.val + a.val, by have := s.isLt; have := a.isLt; omega⟩

theorem xst_apply (c : Dev nD) (i : S8192x512.Idx) : xst m c i = m ((c : Thread nD τ).loc main_arg0) i := by
  have hz : (fun a => win0_0.index t0_0 a * main_arg0.ty.shape.size a) = fun _ => 0 := funext fun a => by fin_cases a <;> decide
  exact congrFun (Memref.read_access_unit_zero (Elt F) main_arg0 hz (fun a => by rw [congrFun hz a]; simp) (m ((c : Thread nD τ).loc main_arg0))) i

theorem xRows_apply (c : Dev nD) (j : Fin 16) (a k : Fin 512) :
    xRows m c j (ix2 a k) = m ((c : Thread nD τ).loc main_arg0) (ix2 (rowOf j a) k) := by
  unfold xRows
  rw [xst_apply]
  refine congrArg _ (funext fun d => Fin.ext ?_)
  match d with
  | ⟨0, _⟩ => show 512 * j.val + 1 * a.val = 512 * j.val + a.val; omega
  | ⟨1, _⟩ => show 0 + 1 * k.val = k.val; omega

theorem waV_apply (c : Dev nD) (s : Fin 16) (k : Fin 512) (b : Fin 4096) :
    waV m c s (ix2 k b) = m ((c : Thread nD τ).loc main_arg1) (ix2 (rowOf s k) b) := by
  unfold waV
  rw [View.read_apply]
  refine congrArg (m ((c : Thread nD τ).loc main_arg1)) (funext fun d => Fin.ext ?_)
  match d with
  | ⟨0, _⟩ => show 512 * s.val + 1 * k.val = 512 * s.val + k.val; omega
  | ⟨1, _⟩ => show 0 + 1 * b.val = b.val; omega

/-! ## Over exact arithmetic -/

variable (mi : (ℓ : Loc nD τ sig) → Buf (Elt Ideal) ℓ)

/-- Device `s`'s columns of `x`, and device `c`'s weights, as numbers. -/
def xAt (s : Dev nD) (r : Fin 8192) (k : Fin 512) : EReal := mi ((s : Thread nD τ).loc main_arg0) (ix2 r k)
def wAt (c : Dev nD) (r : Fin 8192) (b : Fin 4096) : EReal := mi ((c : Thread nD τ).loc main_arg1) (ix2 r b)

/-- The part of an output element that comes from device `s`'s columns: row `512 c + a` of them against the weights. -/
def part (c s : Dev nD) (a : Fin 512) (b : Fin 4096) : EReal :=
  ∑ k : Fin 512, xAt mi s (rowOf c a) k * wAt mi c (rowOf s k) b

theorem pay1_apply (c s : Dev nD) (a : Fin 512) (b : Fin 4096) :
    k0_pay1 (k0_pay21 (sbV mi s c)) (wbV mi c s) (ix2 a b) = part mi c s a b := by
  unfold sbV wbV part
  pointwise [k0_pay1, k0_pay21, k0_pay3]
  simp only [xRows_apply, waV_apply]
  rfl

theorem pay2_apply (v69 : FVec Ideal S512x512 .bf16) (v81 : Vec Ideal S1x512x4096 .f32) (v96 : Vec Ideal S512x4096 .f32) (a : Fin 512) (b : Fin 4096) :
    (k0_pay2 v69 v81 v96 (ix2 a b) : EReal) = (v96 (ix2 a b) : EReal) + (k0_pay1 v69 v81 (ix2 a b) : EReal) := by
  unfold k0_pay2
  generalize k0_pay1 v69 v81 = z
  pointwise

/-- The running sum after step `n`. -/
theorem acc_apply (c : Dev nD) (a : Fin 512) (b : Fin 4096) (n : ℕ) :
    (acc mi c n (ix2 a b) : EReal) = ∑ t ∈ Finset.range (n + 1), part mi c (behind c t) a b := by
  induction n with
  | zero => rw [Finset.sum_range_one]; exact pay1_apply mi c (behind c 0) a b
  | succ n ih => rw [Finset.sum_range_succ, ← ih, ← pay1_apply mi c (behind c (n + 1)) a b]; exact pay2_apply ..

end Cert.KernelIdeal.Proof

end
-- ==== Proof.Gelu.lean ====
/-
  The nonlinearity, and what the reference computes, element by element.
-/
module

public import proofs.«01_k».proof.Proof.Gen.KernelIdeal.Skeleton
public import proofs.«01_k».proof.Proof.Gen.ReferenceIdeal.Run
public import Idealize.ShloMosaic.Lib.Pointwise

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

set_option maxRecDepth 8000

/-- The tanh form of gelu, with the constants the programs carry. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- The kernel's last step: the nonlinearity of the whole sum. -/
theorem pay20_apply (v84 v96 : FVec Ideal S512x4096 .f32) (a : Fin 512) (b : Fin 4096) :
    (k0_pay20 v84 v96 (ix2 a b) : EReal) = gelu ((v96 (ix2 a b) : EReal) + (v84 (ix2 a b) : EReal)) := by
  unfold gelu
  pointwise [k0_pay20]
  simp only [mul_assoc]

/-! ## The reference -/

open Cert.ReferenceIdeal (dot_S8192x8192_S8192x4096_S8192x4096_1_0_0_1_n_n)
open Cert.ReferenceIdeal.Gen (bcast_S_S8192x4096)

/-- The reference's product. -/
def refDot (x : FVec Ideal Cert.ReferenceIdeal.S8192x8192 .f32) (w : FVec Ideal Cert.ReferenceIdeal.S8192x4096 .f32) : FVec Ideal Cert.ReferenceIdeal.S8192x4096 .f32 :=
  Host.dotGeneral dot_S8192x8192_S8192x4096_S8192x4096_1_0_0_1_n_n none x w

/-- What the reference makes of its product `y`. -/
def refOf (y : FVec Ideal Cert.ReferenceIdeal.S8192x4096 .f32) : FVec Ideal Cert.ReferenceIdeal.S8192x4096 .f32 :=
  mulf (mulf (broadcastInDim Cert.ReferenceIdeal.S8192x4096 ![] bcast_S_S8192x4096 (constant Cert.ReferenceIdeal.S_ .f32 0x3F000000#32)) y)
    (addf (broadcastInDim Cert.ReferenceIdeal.S8192x4096 ![] bcast_S_S8192x4096 (constant Cert.ReferenceIdeal.S_ .f32 0x3F800000#32))
      (Host.tanh (mulf (broadcastInDim Cert.ReferenceIdeal.S8192x4096 ![] bcast_S_S8192x4096 (constant Cert.ReferenceIdeal.S_ .f32 0x3F4C422A#32))
        (addf y (mulf (broadcastInDim Cert.ReferenceIdeal.S8192x4096 ![] bcast_S_S8192x4096 (constant Cert.ReferenceIdeal.S_ .f32 0x3D372713#32))
          (mulf (mulf y y) y))))))

theorem refOf_apply (y : FVec Ideal Cert.ReferenceIdeal.S8192x4096 .f32) (r : Fin 8192) (b : Fin 4096) :
    (refOf y (ix2 r b) : EReal) = gelu (y (ix2 r b)) := by
  unfold gelu
  pointwise [refOf]

theorem refDot_apply (x : FVec Ideal Cert.ReferenceIdeal.S8192x8192 .f32) (w : FVec Ideal Cert.ReferenceIdeal.S8192x4096 .f32) (r : Fin 8192) (b : Fin 4096) :
    (refDot x w (ix2 r b) : EReal) = ∑ k : Fin 8192, (x (ix2 r k) : EReal) * (w (ix2 k b) : EReal) := by
  pointwise [refDot]

/-- The reference runs, and ends with that. -/
theorem run_reference (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v13)
          = refOf (refDot (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1) :=
  Cert.ReferenceIdeal.Value.run (F := Ideal) m' ρ'

end Cert.KernelIdeal.Proof

end
-- ==== Proof.Output.lean ====
/-
  What the output array holds at the end.
-/
module

public import proofs.«01_k».proof.Proof.Run
public import Idealize.ShloMosaic.Lib.Pipeline.Value

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-- The output array has one block, written back after the last step: what the last step left in it. -/
theorem flushed_last (c : Dev nD) (t : Fin cfg0.N) (hf : (cfg0.win 1).flush t = true) :
    (dats m 0 c).flushed 1 t = ((cfg0.win 1).blk t).view.read (Elt F) (outV m c 15 : Buf (Elt F) ((c : Thread nD τ).loc main_v1)) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  have hz : (fun a => win0_1.index t0_15 a * main_v1.ty.shape.size a) = fun _ => 0 := funext fun a => by fin_cases a <;> decide +kernel
  exact (Memref.read_access_unit_zero (Elt F) main_v1 hz (fun a => by rw [congrFun hz a]; simp) (outV m c 15)).symm

theorem finalA_out (c : Dev nD) : finalA m c (1 : Fin 2) = outV m c 15 :=
  (dats m 0 c).arrAt_eq_of_cover 1 (outV m c 15) (flushed_last m c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 512 := (i 0).isLt
      have h1 : (i 1 : Nat) < 4096 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 512 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 4096 from by decide +kernel]; omega⟩

/-- Every run ends with the output array at what the last step left, and the arguments as they were. -/
theorem run_value (ρ : Dev nD → PrngReg) :
    θ_run defs (onTc (τ := τ) (main (F := F))) (s₀ m ρ) (fun r => ∀ c : Dev nD,
      r.2.mem ((c.tc : Thread nD τ).loc main_v1) = outV m c 15
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.1 c (1 : Fin 2)).trans (finalA_out m c), (h.1.1 c (0 : Fin 2)).trans (finalA_x m c), h.1.2 c⟩) (run_main m ρ)

end Cert.KernelIdeal.Proof

end
-- ==== Proof.Equation.lean ====
/-
  The kernel computes the reference.
-/
module

public import proofs.«01_k».proof.Defs
public import proofs.«01_k».proof.Proof.Block
public import proofs.«01_k».proof.Proof.Gelu
public import proofs.«01_k».proof.Proof.Output

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 8000

local notation "𝕄" => MT nD τ sig Unit (Elt F) ℕ UU ℕ

variable (m : (ℓ : Loc nD τ sig) → Buf (Elt F) ℓ)

/-! ## The order of the sum -/

/-- The devices in the order of the steps are all devices. -/
theorem sum_turn (c : Dev nD) (f : Dev nD → EReal) : ∑ t ∈ Finset.range 16, f (behind c t) = ∑ s : Fin 16, f s := by
  rw [Finset.sum_range]
  exact Equiv.sum_comp (behindEquiv c) f

/-- The contraction over all columns, device by device. -/
theorem sum_rows (f : Fin 8192 → EReal) : ∑ k : Fin 8192, f k = ∑ s : Fin 16, ∑ k : Fin 512, f (rowOf s k) := by
  rw [← Finset.sum_product', Finset.univ_product_univ]
  refine (Fintype.sum_equiv (finProdFinEquiv (m := 16) (n := 512)) _ _ fun sk => congrArg f (Fin.ext ?_)).symm
  show 512 * sk.1.val + sk.2.val = sk.2.val + 512 * sk.1.val
  omega

/-! ## The kernel's output -/

variable (mi : (ℓ : Loc nD τ sig) → Buf (Elt Ideal) ℓ)

theorem out_apply (c : Dev nD) (a : Fin 512) (b : Fin 4096) :
    (outV mi c 15 (ix2 a b) : EReal) = gelu (∑ s : Fin 16, part mi c s a b) := by
  have h : outV mi c 15 = k0_pay20 (ctr mi c 15) (acc mi c 14) := if_pos rfl
  rw [h, pay20_apply, ← sum_turn c fun s => part mi c s a b, Finset.sum_range_succ, acc_apply]
  exact congrArg gelu (congrArg _ (pay1_apply mi c (behind c 15) a b))

/-! ## The equation -/

variable (X : FVec Ideal Cert.ReferenceIdeal.S8192x8192 .f32) (W : FVec Ideal Cert.ReferenceIdeal.S8192x4096 .f32)

theorem part_eq (hx : ∀ s : Dev nD, mi ((s : Thread nD τ).loc main_arg0) = Layout.block ⟨2, ![8192, 512]⟩ ⟨2, ![8192, 8192]⟩ 1 16 s X)
    (hw : ∀ s : Dev nD, mi ((s : Thread nD τ).loc main_arg1) = W) (c s : Dev nD) (a : Fin 512) (b : Fin 4096) :
    part mi c s a b = ∑ k : Fin 512, (X (ix2 (rowOf c a) (rowOf s k)) : EReal) * (W (ix2 (rowOf s k) b) : EReal) := by
  unfold part
  refine Finset.sum_congr rfl fun k _ => ?_
  have h1 : xAt mi s (rowOf c a) k = X (ix2 (rowOf c a) (rowOf s k)) := by
    unfold xAt
    rw [hx]
    refine congrArg X (funext fun d => Fin.ext ?_)
    rw [Layout.Tiles.idx_val]
    match d with
    | ⟨0, _⟩ => rfl
    | ⟨1, _⟩ => show s.val * 512 + k.val = 512 * s.val + k.val; omega
  have h2 : wAt mi c (rowOf s k) b = W (ix2 (rowOf s k) b) := by unfold wAt; rw [hw]
  rw [h1, h2]

/-- Device `c`'s output is its block of rows of the reference's result. -/
theorem out_eq (hx : ∀ s : Dev nD, mi ((s : Thread nD τ).loc main_arg0) = Layout.block ⟨2, ![8192, 512]⟩ ⟨2, ![8192, 8192]⟩ 1 16 s X)
    (hw : ∀ s : Dev nD, mi ((s : Thread nD τ).loc main_arg1) = W) (c : Dev nD) :
    outV mi c 15 = Layout.block ⟨2, ![512, 4096]⟩ ⟨2, ![8192, 4096]⟩ 0 16 c (refOf (refDot X W)) := by
  funext i
  obtain ⟨a, b, rfl⟩ : ∃ (a : Fin 512) (b : Fin 4096), i = ix2 a b := ⟨i 0, i 1, eq_ix2 i⟩
  have hi : Layout.block ⟨2, ![512, 4096]⟩ ⟨2, ![8192, 4096]⟩ 0 16 c (refOf (refDot X W)) (by decide) (ix2 a b) = refOf (refDot X W) (ix2 (rowOf c a) b) := by
    refine congrArg (refOf (refDot X W)) (funext fun d => Fin.ext ?_)
    rw [Layout.Tiles.idx_val]
    match d with
    | ⟨0, _⟩ => show c.val * 512 + a.val = 512 * c.val + a.val; omega
    | ⟨1, _⟩ => rfl
  refine (out_apply mi c a b).trans (Eq.trans ?_ hi.symm)
  rw [refOf_apply, refDot_apply, sum_rows]
  exact congrArg gelu (Finset.sum_congr rfl fun s _ => part_eq mi X W hx hw c s a b)

/-- The kernel over exact arithmetic computes the reference. -/
theorem algebraic : Cert.algebraic_KernelIdeal_ReferenceIdeal := fun m ρ m' ρ' _ hag =>
  ⟨refOf (refDot (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run defs _ _).mono (fun r h c => ⟨(h c).1.trans (out_eq m _ _ (fun s => (hag s).1) (fun s => (hag s).2) c), (h c).2⟩) (run_value m ρ),
    (θ_run Cert.ReferenceIdeal.defs _ _).mono (fun r h => h 0) (run_reference m' ρ')⟩

end Cert.KernelIdeal.Proof

end
-- ==== Proof.lean ====
/-
  The certificate: three frames (Frames.lean), the idealization's preservation, which rewrites nothing, and the
  value claim (Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

/-- All claims together, after the facts each printed program states. -/
theorem claim : Cert.Claim := ⟨Cert.Kernel.Gen.facts, Cert.KernelIdeal.Gen.facts, Cert.ReferenceIdeal.Gen.facts,
  Cert.KernelIdeal.Proof.frame_kernel, Cert.KernelIdeal.Proof.frame_ideal, Cert.KernelIdeal.Proof.frame_reference, trivial,
  Cert.KernelIdeal.Proof.algebraic⟩

end Cert.Proof

end
